-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x1x512 : Shape := ⟨3, ![2, 1, 512]⟩
abbrev S2 : Shape := ⟨1, ![2]⟩
abbrev S_ : Shape := ⟨0, ![]⟩
abbrev S1 : Shape := ⟨1, ![1]⟩
abbrev S1x1x512 : Shape := ⟨3, ![1, 1, 512]⟩
abbrev S1x512 : Shape := ⟨2, ![1, 512]⟩
abbrev S510x512 : Shape := ⟨2, ![510, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S2x1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .sgt v2 c0_i32
  let v10 : BitVec 32 := Scalar.extui v3
  let c0_i32_2 : BitVec 32 := 0#32
  let v11 : BitVec 1 := Scalar.cmpi .ne v10 c0_i32_2
  v11

def k0_dev1 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_63 : BitVec 32 := 1#32
  let v85 : BitVec 32 := Scalar.subi v2 c1_i32_63
  let c1_i32_65 : BitVec 32 := 1#32
  let v86 : BitVec 32 := Scalar.muli v85 c1_i32_65
  let v87 : BitVec 32 := Scalar.addi c0_i32_66 v86
  v87.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v4 : BitVec 1 := Scalar.cmpi .slt v2 c31_i32
  let v12 : BitVec 32 := Scalar.extui v4
  let c0_i32_3 : BitVec 32 := 0#32
  let v13 : BitVec 1 := Scalar.cmpi .ne v12 c0_i32_3
  v13

def k0_dev2 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_63 : BitVec 32 := 1#32
  let v85 : BitVec 32 := Scalar.addi v2 c1_i32_63
  let c1_i32_65 : BitVec 32 := 1#32
  let v86 : BitVec 32 := Scalar.muli v85 c1_i32_65
  let v87 : BitVec 32 := Scalar.addi c0_i32_66 v86
  v87.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .sgt v2 c0_i32
  let v20 : BitVec 32 := Scalar.extui v3
  let c0_i32_11 : BitVec 32 := 0#32
  let v21 : BitVec 1 := Scalar.cmpi .ne v20 c0_i32_11
  v21

def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v18 : BitVec 32 := Scalar.subi v2 c1_i32_6
  let c1_i32_63 : BitVec 32 := 1#32
  let v85 : BitVec 32 := Scalar.muli v18 c1_i32_63
  let v86 : BitVec 32 := Scalar.addi c0_i32_64 v85
  v86.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v4 : BitVec 1 := Scalar.cmpi .slt v2 c31_i32
  let v22 : BitVec 32 := Scalar.extui v4
  let c0_i32_15 : BitVec 32 := 0#32
  let v23 : BitVec 1 := Scalar.cmpi .ne v22 c0_i32_15
  v23

def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v19 : BitVec 32 := Scalar.addi v2 c1_i32_7
  let c1_i32_63 : BitVec 32 := 1#32
  let v85 : BitVec 32 := Scalar.muli v19 c1_i32_63
  let v86 : BitVec 32 := Scalar.addi c0_i32_64 v85
  v86.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S16382x512 : Shape := ⟨2, ![16382, 512]⟩
abbrev S_ : Shape := ⟨0, ![]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16382x512, .f32⟩
  | .hbm, ⟨2, _⟩ => ⟨S_, .f32⟩
  | .hbm, ⟨3, _⟩ => ⟨S16382x512, .f32⟩
  | .hbm, ⟨4, _⟩ => ⟨S16382x512, .f32⟩
  | .hbm, ⟨5, _⟩ => ⟨S16382x512, .f32⟩
  | .hbm, ⟨6, _⟩ => ⟨S_, .f32⟩
  | .hbm, ⟨7, _⟩ => ⟨S16382x512, .f32⟩
  | .hbm, ⟨8, _⟩ => ⟨S16382x512, .f32⟩
  | .hbm, ⟨9, _⟩ => ⟨S16382x512, .f32⟩
  | .hbm, ⟨10, _⟩ => ⟨S16382x512, .f32⟩
  | .hbm, ⟨11, _⟩ => ⟨S_, .f32⟩
  | .hbm, ⟨12, _⟩ => ⟨S16382x512, .f32⟩
  | .hbm, ⟨13, _⟩ => ⟨S16382x512, .f32⟩
  | .hbm, ⟨14, _⟩ => ⟨S16382x512, .f32⟩
  | .hbm, ⟨15, _⟩ => ⟨S1x512, .f32⟩
  | .hbm, ⟨16, _⟩ => ⟨S1x512, .f32⟩
  | .hbm, ⟨17, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Protocol.lean ====
/-
# The halo exchange: its protocol

Device `c` of a line of 32 holds one block of rows `x` and a two-row halo buffer. Everything the kernel does on its
left side it does again, mirrored, on its right side, so the whole development is written once for a SIDE `s : Bool`
(`false` the left, `true` the right):

* `has s c`   device `c` has a neighbour on side `s`;
* `nb s c`    that neighbour (read cyclically, so that it is a permutation; only used where `has s c`);
* `edgeM s`   the row of `x` next to side `s` (row 0, row 511);
* `slotM s`   the row of the halo buffer for the neighbour's row on side `s`.

A transfer on side `s` carries `edgeM s` of `c` to `slotM (!s)` of `nb s c`. Before it, `c` must know that the
neighbour has finished zeroing its halo buffer: each device signals each neighbour's barrier semaphore once, and waits
for one unit per neighbour. So a unit on the barrier of `c` from the neighbour on side `s` brings to `c` the right to
write that neighbour's slot `!s`.

The schedule below says this as rounds: one round per semaphore, the duties of it conditional on the neighbour.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.HaloProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part, and the exchange's with duties named by sides -/

/-- The ledger of the exchange: rounds at each semaphore, a duty named by a side. -/
abbrev UB : Type := URounds (GSem nD τ sig) Bool
/-- The ghost state: the staging pipeline's ledger beside the exchange's. -/
abbrev UU : Type := UR sig nD τ × UB

local notation "𝕄" => MT nD τ sig Unit (Elt F) ℕ UU ℕ

/-- Where the pipeline's ledger sits in the ghost state. -/
abbrev EP : Emb (UR sig nD τ) (MT nD τ sig Unit (Elt F) ℕ UU ℕ) := embL
/-- Where the exchange's ledger sits in it. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The line of devices -/

/-- Whether device `c` has a neighbour on side `s`: the first device has none on its left, the last none on its right. -/
def has (s : Bool) (c : Dev nD) : Bool := match s with
  | false => decide (0 < c.val)
  | true => decide (c.val < 31)

set_option backward.proofsInPublic true in
/-- The neighbour on side `s`, the line closed to a ring. -/
def nb (s : Bool) (c : Dev nD) : Dev nD := match s with
  | false => ⟨(c.val + 31) % 32, Nat.mod_lt _ (by decide)⟩
  | true => ⟨(c.val + 1) % 32, Nat.mod_lt _ (by decide)⟩

/-- The neighbour's neighbour on the other side is the device itself. -/
theorem nb_nb (s : Bool) (c : Dev nD) : nb (!s) (nb s c) = c := by revert s c; decide +kernel
/-- The same, the other side first. -/
theorem nb_nb' (s : Bool) (c : Dev nD) : nb s (nb (!s) c) = c := by revert s c; decide +kernel
/-- Being neighbours is mutual. -/
theorem has_nb (s : Bool) (c : Dev nD) : has (!s) (nb s c) = has s c := by revert s c; decide +kernel
/-- Every device has a neighbour on one side or the other. -/
theorem has_or (c : Dev nD) : has false c = true ∨ has true c = true := by revert c; decide +kernel

/-- Stepping to side `s`, as a permutation of the devices. -/
def around (s : Bool) : Dev nD ≃ Dev nD := ⟨nb s, nb (!s), nb_nb s, nb_nb' s⟩

/-- The device a signal to the left names is the neighbour on the left. -/
theorem dev1_eq (c : Dev nD) (h : k0_cond1 c = 1#1) : (⟨k0_dev1 c, k0_dev1_lt c h⟩ : Dev nD) = nb false c := by
  revert c; decide +kernel
/-- The device a signal to the right names is the neighbour on the right. -/
theorem dev2_eq (c : Dev nD) (h : k0_cond2 c = 1#1) : (⟨k0_dev2 c, k0_dev2_lt c h⟩ : Dev nD) = nb true c := by
  revert c; decide +kernel
/-- The device a transfer to the left names is the neighbour on the left. -/
theorem dev3_eq (c : Dev nD) (h : k0_cond5 c = 1#1) : (⟨k0_dev3 c, k0_dev3_lt c h⟩ : Dev nD) = nb false c := by
  revert c; decide +kernel
/-- The device a transfer to the right names is the neighbour on the right. -/
theorem dev4_eq (c : Dev nD) (h : k0_cond6 c = 1#1) : (⟨k0_dev4 c, k0_dev4_lt c h⟩ : Dev nD) = nb true c := by
  revert c; decide +kernel

/-- The device's place on the line, as the kernel computes it from the device's number. -/
abbrev word (c : Dev nD) : BitVec 32 := Scalar.remsi (Scalar.divsi (Dev.word c) 1#32) 32#32
/-- The kernel's tests of that place, as it writes them in its conditionals. -/
abbrev testL (c : Dev nD) : BitVec 1 := Scalar.cmpi .ne (Scalar.extui (Scalar.cmpi .sgt (word c) 0#32) : BitVec 32) 0#32
/-- The test for a neighbour on the right. -/
abbrev testR (c : Dev nD) : BitVec 1 := Scalar.cmpi .ne (Scalar.extui (Scalar.cmpi .slt (word c) 31#32) : BitVec 32) 0#32

/-- The test on the left holds just where there is a neighbour on the left. -/
theorem testL_iff (c : Dev nD) : testL c = 1#1 ↔ has false c = true := by revert c; decide +kernel
/-- The test on the right holds just where there is a neighbour on the right. -/
theorem testR_iff (c : Dev nD) : testR c = 1#1 ↔ has true c = true := by revert c; decide +kernel
/-- The signal to the left is sent just where there is a neighbour on the left. -/
theorem cond1_iff (c : Dev nD) : k0_cond1 c = 1#1 ↔ has false c = true := by revert c; decide +kernel
/-- The signal to the right is sent just where there is a neighbour on the right. -/
theorem cond2_iff (c : Dev nD) : k0_cond2 c = 1#1 ↔ has true c = true := by revert c; decide +kernel
/-- The transfer to the left is made just where there is a neighbour on the left. -/
theorem cond5_iff (c : Dev nD) : k0_cond5 c = 1#1 ↔ has false c = true := by revert c; decide +kernel
/-- The transfer to the right is made just where there is a neighbour on the right. -/
theorem cond6_iff (c : Dev nD) : k0_cond6 c = 1#1 ↔ has true c = true := by revert c; decide +kernel

/-! ## The memrefs, the semaphores, the cells -/

/-- The device's block of `x`, staged. -/
abbrev xM : Memref sig .tc .vmem S512x512 .f32 := Memref.whole cc0_stg0_0
/-- The device's block of the result, staged. -/
abbrev oM : Memref sig .tc .vmem S512x512 .f32 := Memref.whole cc0_stg1_0
/-- The halo buffer: two rows, one per side. -/
abbrev hM : Memref sig .tc .vmem S2x1x512 .f32 := Memref.whole cc0_scratch0

/-- The number of the row of the block next to side `s`. -/
abbrev edgeRow : Bool → ℕ | false => 0 | true => 511
/-- The number of the halo row for side `s`. -/
abbrev slotRow : Bool → ℕ | false => 0 | true => 1

/-- The edge row lies in the block. -/
theorem edge_inb (s : Bool) : ∀ a, (![edgeRow s, 0] : Fin 2 → Nat) a + S1x512.size a ≤ S512x512.size a := by revert s; decide
/-- The halo row lies in the halo buffer. -/
theorem slot_inb (s : Bool) : ∀ a, (![slotRow s, 0, 0] : Fin 3 → Nat) a + S1x1x512.size a ≤ S2x1x512.size a := by revert s; decide

/-- The row of the block next to side `s`, as a rectangle of the block. -/
abbrev edgeR (s : Bool) : Rect S512x512 := Rect.unit (s := S512x512) ![edgeRow s, 0] S1x512.size (edge_inb s)
/-- The halo row for side `s`, as a rectangle of the halo buffer. -/
abbrev slotR (s : Bool) : Rect S2x1x512 := Rect.unit (s := S2x1x512) ![slotRow s, 0, 0] S1x1x512.size (slot_inb s)
/-- The edge row, as the source of a transfer. -/
abbrev edgeM (s : Bool) : Memref sig .tc .vmem S1x512 .f32 := xM.slice (edgeR s) (fun _ => rfl)
/-- The halo row, as the destination of one. -/
abbrev slotM (s : Bool) : Memref sig .tc .vmem S1x512 .f32 := (hM.slice (slotR s) (fun _ => rfl)).squeeze S1x512 squeezes_S1x1x512_S1x512

/-- The barrier semaphore. -/
abbrev barS : Sem sig := (SemArray.scalar (sig.barrier 0 rfl) : Sems sig S_).sem
/-- The send semaphore of side `s`. -/
abbrev sendS : Bool → DmaSem sig | false => ⟨2, by decide⟩ | true => ⟨3, by decide⟩
/-- The receive semaphore of side `s`. -/
abbrev recvS : Bool → DmaSem sig | false => ⟨4, by decide⟩ | true => ⟨5, by decide⟩

/-- The first entry of the send semaphores is the one of the left side. -/
theorem sem_send0 : ((cc0_scratch1.slice (Rect.unit (s := S2) ![0] ![1] inb_S2_S1_0)).squeeze S_ squeezes_S1_S_).sem = sendS false := rfl
/-- The second entry of the send semaphores is the one of the right side. -/
theorem sem_send1 : ((cc0_scratch1.slice (Rect.unit (s := S2) ![1] ![1] inb_S2_S1_1)).squeeze S_ squeezes_S1_S_).sem = sendS true := rfl
/-- The first entry of the receive semaphores is the one of the left side. -/
theorem sem_recv0 : ((cc0_scratch2.slice (Rect.unit (s := S2) ![0] ![1] inb_S2_S1_0)).squeeze S_ squeezes_S1_S_).sem = recvS false := rfl
/-- The second entry of the receive semaphores is the one of the right side. -/
theorem sem_recv1 : ((cc0_scratch2.slice (Rect.unit (s := S2) ![1] ![1] inb_S2_S1_1)).squeeze S_ squeezes_S1_S_).sem = recvS true := rfl

/-- Device `c`'s barrier semaphore. -/
abbrev barCell (c : Dev nD) : GSem nD τ sig := ((c : Thread nD τ), .reg barS)
/-- Device `c`'s send semaphore of side `s`. -/
abbrev sendCell (s : Bool) (c : Dev nD) : GSem nD τ sig := ((c : Thread nD τ), .dma (sendS s))
/-- Device `c`'s receive semaphore of side `s`. -/
abbrev recvCell (s : Bool) (c : Dev nD) : GSem nD τ sig := ((c : Thread nD τ), .dma (recvS s))

/-- The kernel's own scoped semaphores, indexed by (is it a receive semaphore, side); -/
abbrev osem : Bool × Bool → SemLoc sig := fun k => if k.1 then .dma (recvS k.2) else .dma (sendS k.2)
/-- and all five of the exchange, `none` the barrier. -/
abbrev csem : Option (Bool × Bool) → SemLoc sig := fun | none => .reg barS | some k => osem k
/-- The same semaphore on a given device. -/
abbrev kcell (ck : Dev nD × Option (Bool × Bool)) : GSem nD τ sig := ((ck.1 : Thread nD τ), csem ck.2)

/-- What a transferred row credits its semaphores with. -/
abbrev N : ℕ := (slotM false).view.dmaCredit
/-- A row credits something. -/
theorem N_pos : 0 < N := View.dmaCredit_pos _ (by decide)
/-- A halo row of either side credits the same amount. -/
theorem slot_credit (s : Bool) : (slotM s).view.dmaCredit = N := by cases s <;> rfl
/-- So does an edge row. -/
theorem edge_credit (s : Bool) : (edgeM s).view.dmaCredit = N := by cases s <;> rfl

/-- What a semaphore of the exchange is for. -/
inductive Role where
  | bar
  | send (s : Bool)
  | recv (s : Bool)
  | none

/-- The role of a semaphore of a device. -/
def role (l : SemLoc sig) : Role :=
  if l = .reg barS then .bar
  else if l = .dma (sendS false) then .send false
  else if l = .dma (sendS true) then .send true
  else if l = .dma (recvS false) then .recv false
  else if l = .dma (recvS true) then .recv true
  else .none

/-- The barrier semaphore is the barrier. -/
theorem role_bar : role (.reg barS) = .bar := if_pos rfl
/-- The send semaphore of side `s` is for sending on that side. -/
theorem role_send (s : Bool) : role (.dma (sendS s)) = .send s := by cases s <;> rfl
/-- The receive semaphore of side `s` is for receiving on that side. -/
theorem role_recv (s : Bool) : role (.dma (recvS s)) = .recv s := by cases s <;> rfl

/-! ## Contents -/

/-- Device `c`'s block of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The halo buffer zeroed, as the kernel starts. -/
def zeroed : (cc0_scratch0 : Ref sig .tc).ty.Contents (Elt F) := k0_pay3 (F := F)

/-- What slot `s` of device `c` holds at the end: the neighbour's edge row, or the zeros where there is no neighbour. -/
def slotAt (s : Bool) (c : Dev nD) : (cc0_scratch0 : Ref sig .tc).ty.Contents (Elt F) :=
  if has s c then (slotM s).view.write (Elt F) zeroed ((edgeM (!s)).view.read (Elt F) (xstg m ρ (nb s c))) Finset.univ else zeroed

/-- The elements of the halo buffer that slot `s` is. -/
abbrev slotSet (s : Bool) : Finset (Shape.Idx (cc0_scratch0 : Ref sig .tc).ty.shape) := (slotM s).view.set
/-- The elements of the block that edge row `s` is. -/
abbrev edgeSet (s : Bool) : Finset (Shape.Idx (cc0_stg0_0 : Ref sig .tc).ty.shape) := (edgeM s).view.set

/-- Slot `s` of device `c`'s halo buffer, held outright. -/
def slotPts (s : Bool) (c : Dev nD) (f : Buf (Elt F) ((c : Thread nD τ).loc cc0_scratch0)) : sProp 𝕄 :=
  ((c : Thread nD τ).loc cc0_scratch0) ↦[slotSet s]{fullShare} f
/-- The edge row `s` of device `c`'s block, at the share lent to the transfer. -/
def edgePts (s : Bool) (c : Dev nD) : sProp 𝕄 :=
  ((c : Thread nD τ).loc cc0_stg0_0) ↦[edgeSet s]{fullShare.right} xstg m ρ c

omit [FloatOps F] in
/-- A halo row can be handed over through a semaphore. -/
instance slotPts_storable (s) (c : Dev nD) (f) : BI.Storable (upEmb : UEmb _ 𝕄) (slotPts (F := F) s c f) := by unfold slotPts; infer_instance
omit [FloatOps F] in
/-- So can an edge row. -/
instance edgePts_storable (s) (c : Dev nD) : BI.Storable (upEmb : UEmb _ 𝕄) (edgePts (F := F) m ρ s c) := by unfold edgePts; infer_instance

/-- A resource present under a condition. -/
def opt (b : Bool) (P : sProp 𝕄) : sProp 𝕄 := if b then P else iprop(emp)
omit [FloatOps F] in
/-- Under a condition that holds, the resource itself. -/
theorem opt_true (P : sProp 𝕄) : opt true P = P := rfl
omit [FloatOps F] in
/-- Under one that fails, nothing. -/
theorem opt_false (P : sProp 𝕄) : opt false P = iprop(emp) := rfl

/-! ## The schedule -/

/-- What the neighbour on side `s` hands device `c` with its unit on the barrier of `c`: its own slot facing `c`, and that
    its receive semaphore of that slot is open. -/
def barPay (s : Bool) (c : Dev nD) : sProp 𝕄 :=
  iprop((∃ f, slotPts (!s) (nb s c) f) ∗ reached ER (recvCell (!s) (nb s c)) 0)

/-- One round per semaphore. The barrier of `c` has a duty per neighbour, of one unit; the send and receive semaphores of
    a side have one duty where the neighbour exists, of a row's credit: the lent edge row back, the landed row. -/
def sched : Rounds.Schedule (GSem nD τ sig) Bool 𝕄 where
  duties g r := if r = 0 ∧ g.1.2 = .tc then
      (match role g.2 with
        | .bar => Finset.univ.filter fun s => has s g.1.1 = true
        | .send s => if has s g.1.1 then {false} else ∅
        | .recv s => if has s g.1.1 then {false} else ∅
        | .none => ∅)
    else ∅
  unitless _ := False
  amount g _ _ := match role g.2 with | .bar => 1 | _ => N
  payload g _ d := match role g.2 with
    | .bar => barPay d g.1.1
    | .send s => edgePts m ρ s g.1.1
    | .recv s => slotPts s g.1.1 (slotAt m ρ s g.1.1)
    | .none => iprop(emp)
  amount_pos g _ _ _ := by
    cases role g.2 <;> first | exact Nat.one_pos | exact N_pos

/-- Every payload of the schedule can be handed over through a semaphore. -/
instance sched_payload_storable (g : GSem nD τ sig) (r : ℕ) (d : Bool) :
    BI.Storable (upEmb : UEmb _ 𝕄) ((sched (F := F) m ρ).payload g r d) := by
  show BI.Storable upEmb (match role g.2 with
    | .bar => barPay d g.1.1
    | .send s => edgePts m ρ s g.1.1
    | .recv s => slotPts s g.1.1 (slotAt m ρ s g.1.1)
    | .none => iprop(emp))
  unfold barPay
  split <;> infer_instance

section Sched
variable (s d : Bool) (c : Dev nD)

/-- A barrier's duties are the sides with a neighbour. -/
theorem duties_bar : (sched (F := F) m ρ).duties (barCell c) 0 = Finset.univ.filter fun s => has s c = true := by
  dsimp only [sched]; rw [if_pos ⟨rfl, rfl⟩, role_bar]
/-- A send semaphore has one duty, where there is a neighbour on its side. -/
theorem duties_send (h : has s c = true) : (sched (F := F) m ρ).duties (sendCell s c) 0 = {false} := by
  dsimp only [sched]; rw [if_pos ⟨rfl, rfl⟩, role_send]; exact if_pos h
/-- A receive semaphore has one duty, where there is a neighbour on its side. -/
theorem duties_recv (h : has s c = true) : (sched (F := F) m ρ).duties (recvCell s c) 0 = {false} := by
  dsimp only [sched]; rw [if_pos ⟨rfl, rfl⟩, role_recv]; exact if_pos h
/-- A send semaphore has no duty where there is no neighbour on its side. -/
theorem duties_send_none (h : ¬ has s c = true) : (sched (F := F) m ρ).duties (sendCell s c) 0 = ∅ := by
  dsimp only [sched]; rw [if_pos ⟨rfl, rfl⟩, role_send]; exact if_neg h
/-- A receive semaphore has no duty where there is no neighbour on its side. -/
theorem duties_recv_none (h : ¬ has s c = true) : (sched (F := F) m ρ).duties (recvCell s c) 0 = ∅ := by
  dsimp only [sched]; rw [if_pos ⟨rfl, rfl⟩, role_recv]; exact if_neg h
/-- No semaphore has a second round. -/
theorem duties_later (g : GSem nD τ sig) (r : ℕ) (hr : 1 ≤ r) : (sched (F := F) m ρ).duties g r = ∅ := by
  dsimp only [sched]; exact if_neg fun h => by omega

/-- A barrier duty pays one unit. -/
theorem amount_bar : (sched (F := F) m ρ).amount (barCell c) 0 d = 1 := by dsimp only [sched]; rw [role_bar]
/-- A send duty pays a row. -/
theorem amount_send : (sched (F := F) m ρ).amount (sendCell s c) 0 d = N := by dsimp only [sched]; rw [role_send]
/-- A receive duty pays a row. -/
theorem amount_recv : (sched (F := F) m ρ).amount (recvCell s c) 0 d = N := by dsimp only [sched]; rw [role_recv]

/-- How many neighbours device `c` has. -/
def count (c : Dev nD) : ℕ := (Finset.univ.filter fun s => has s c = true).card

/-- A barrier expects as many units as the device has neighbours. -/
theorem expect_bar : (sched (F := F) m ρ).expect (barCell c) 0 = count c := by
  unfold Schedule.expect Schedule.amountOf
  rw [duties_bar, Finset.sum_congr rfl fun d _ => amount_bar m ρ d c, Finset.sum_const, smul_eq_mul, Nat.mul_one]; rfl
/-- A send semaphore expects a row, where there is a neighbour on its side. -/
theorem expect_send (h : has s c = true) : (sched (F := F) m ρ).expect (sendCell s c) 0 = N := by
  unfold Schedule.expect Schedule.amountOf; rw [duties_send m ρ s c h, Finset.sum_singleton, amount_send]
/-- A receive semaphore expects a row, where there is a neighbour on its side. -/
theorem expect_recv (h : has s c = true) : (sched (F := F) m ρ).expect (recvCell s c) 0 = N := by
  unfold Schedule.expect Schedule.amountOf; rw [duties_recv m ρ s c h, Finset.sum_singleton, amount_recv]

/-- A barrier unit from side `d` brings what the neighbour on that side hands over at the barrier. -/
theorem payload_bar : (sched (F := F) m ρ).payload (barCell c) 0 d = barPay d c := by dsimp only [sched]; rw [role_bar]
/-- A send semaphore brings the edge row back. -/
theorem payload_send : (sched (F := F) m ρ).payload (sendCell s c) 0 d = edgePts m ρ s c := by dsimp only [sched]; rw [role_send]
/-- A receive semaphore brings the halo row, filled. -/
theorem payload_recv : (sched (F := F) m ρ).payload (recvCell s c) 0 d = slotPts s c (slotAt m ρ s c) := by dsimp only [sched]; rw [role_recv]

/-- The barrier's payloads, one per neighbour. -/
theorem bar_payloads : bigSep ((sched (F := F) m ρ).duties (barCell c) 0) (fun d => (sched (F := F) m ρ).payload (barCell c) 0 d)
    = iprop(opt (has false c) (barPay false c) ∗ opt (has true c) (barPay true c)) := by
  rw [duties_bar, bigSep_congr fun d _ => payload_bar m ρ d c, bigSep_filter,
    bigSep_univ_eq_bigSepL [false, true] (by decide) (by decide), bigSepL_cons_cons, bigSepL_singleton]
  rfl

end Sched

/-! ## What each device owes at launch, and the levels -/

/-- Device `c` owes its neighbour on side `s` the row it will send it. -/
def oweRow (s : Bool) (c : Dev nD) : CellTallies nD τ sig Unit := if has s c then tallyAt (recvCell (!s) (nb s c)) () N else 0
/-- It owes that neighbour's barrier a unit. -/
def oweBar (s : Bool) (c : Dev nD) : CellTallies nD τ sig Unit := if has s c then tallyAt (barCell (nb s c)) () 1 else 0
/-- The two rows, owed until sent; -/
def owedRows (c : Dev nD) : CellTallies nD τ sig Unit := oweRow true c + oweRow false c
/-- and all that is owed at launch, the first to be paid outermost. -/
def owed (c : Dev nD) : CellTallies nD τ sig Unit := owedRows c + oweBar true c + oweBar false c

/-- The tensor core of each device is the one that waits. -/
def L (g : GSem nD τ sig) : Finset Unit := if g.1.2 = .tc then {()} else ∅
/-- The barrier is waited for below the rows, the staging semaphores below both. -/
def lv (g : GSem nD τ sig) (_ : Unit) : ℕ := match role g.2 with | .bar => 1 | .recv _ => 2 | _ => 0

/-- Nothing else waits. -/
theorem L_of_ne (g : GSem nD τ sig) (h : g.1.2 ≠ .tc) : L g = ∅ := if_neg h
/-- Each semaphore of a tensor core may be waited for. -/
theorem L_tc (c : Dev nD) (sm : SemLoc sig) : L ((c : Thread nD τ), sm) = {()} := if_pos rfl
/-- The barrier has level one. -/
theorem lv_bar (c : Dev nD) (u : Unit) : lv (barCell c) u = 1 := by unfold lv; rw [role_bar]
/-- A receive semaphore has level two. -/
theorem lv_recv (s : Bool) (c : Dev nD) (u : Unit) : lv (recvCell s c) u = 2 := by unfold lv; rw [role_recv]

/-- A row is owed to a receive semaphore. -/
theorem oweRow_pos {s : Bool} {c : Dev nD} {g : GSem nD τ sig} {u : Unit} (h : 0 < oweRow s c g u) : ∃ s c', g = recvCell s c' := by
  unfold oweRow at h
  split at h
  · rw [tallyAt_apply] at h
    by_cases hg : g = recvCell (!s) (nb s c)
    · exact ⟨_, _, hg⟩
    · rw [if_neg fun h' => hg h'.1] at h; exact absurd h (Nat.lt_irrefl 0)
  · exact absurd h (Nat.lt_irrefl 0)
/-- A unit is owed to a barrier. -/
theorem oweBar_pos {s : Bool} {c : Dev nD} {g : GSem nD τ sig} {u : Unit} (h : 0 < oweBar s c g u) : ∃ c', g = barCell c' := by
  unfold oweBar at h
  split at h
  · rw [tallyAt_apply] at h
    by_cases hg : g = barCell (nb s c)
    · exact ⟨_, hg⟩
    · rw [if_neg fun h' => hg h'.1] at h; exact absurd h (Nat.lt_irrefl 0)
  · exact absurd h (Nat.lt_irrefl 0)
/-- Both rows are owed to receive semaphores. -/
theorem owedRows_pos {c : Dev nD} {g : GSem nD τ sig} {u : Unit} (h : 0 < owedRows c g u) : ∃ s c', g = recvCell s c' := by
  unfold owedRows at h
  rw [Pi.add_apply, Finsupp.add_apply] at h
  rcases Nat.add_pos_iff_pos_or_pos.mp h with h | h <;> exact oweRow_pos h
/-- What is owed is owed to a receive or a barrier cell. -/
theorem owed_pos {c : Dev nD} {g : GSem nD τ sig} {u : Unit} (h : 0 < owed c g u) : (∃ s c', g = recvCell s c') ∨ ∃ c', g = barCell c' := by
  unfold owed at h
  rw [Pi.add_apply, Finsupp.add_apply, Pi.add_apply, Finsupp.add_apply] at h
  rcases Nat.add_pos_iff_pos_or_pos.mp h with h | h
  · rcases Nat.add_pos_iff_pos_or_pos.mp h with h | h
    · exact .inl (owedRows_pos h)
    · exact .inr (oweBar_pos h)
  · exact .inr (oweBar_pos h)

/-- A staging semaphore may be waited on whatever of the exchange is owed. -/
theorem mayWait_stage (c : Dev nD) (l : SemLoc sig) (hl : lv ((c : Thread nD τ), l) () = 0) (O : CellTallies nD τ sig Unit) (hO : O = owed c ∨ O = 0) :
    (levAts L lv : sProp 𝕄) ⊢ MayWait (c : Thread nD τ) l () O := by
  rcases hO with rfl | rfl
  · refine MayOwe.of_cut (L := L) (lev := lv) 0 (fun p hp => by rw [Finset.mem_singleton.mp hp, L_tc]; exact Finset.mem_singleton_self _)
      (fun g u hg => by rcases owed_pos hg with ⟨_, _, rfl⟩ | ⟨_, rfl⟩ <;> exact Finset.mem_singleton_self _)
      (fun p hp => by rw [Finset.mem_singleton.mp hp]; exact le_of_eq hl)
      (fun g u hg => by
        rcases owed_pos hg with ⟨_, _, rfl⟩ | ⟨_, rfl⟩
        · rw [lv_recv]; decide
        · rw [lv_bar]; decide)
  · rw [MayWait_zero]; iintro -; iempintro

/-- The barrier may be waited on with the rows still owed. -/
theorem mayWait_bar (c : Dev nD) : (levAts L lv : sProp 𝕄) ⊢ MayWait (c : Thread nD τ) (.reg barS) () (owedRows c) :=
  MayOwe.of_cut (L := L) (lev := lv) 1 (fun p hp => by rw [Finset.mem_singleton.mp hp, L_tc]; exact Finset.mem_singleton_self _)
    (fun g u hg => by obtain ⟨_, _, rfl⟩ := owedRows_pos hg; exact Finset.mem_singleton_self _)
    (fun p hp => by rw [Finset.mem_singleton.mp hp]; exact le_of_eq (lv_bar c _))
    (fun g u hg => by obtain ⟨_, _, rfl⟩ := owedRows_pos hg; rw [lv_recv]; decide)

end Cert.HaloProof

end
-- ==== Proof.Ops.lean ====
/-
# The guarded operations of the halo exchange

The kernel does each communication step under the test that the neighbour exists. One rule per kind of step, for a
side `s` and whichever way the test goes: what it takes under the condition is given back, under the same condition,
as what it yields, so that the body's proof is one straight line for all the devices.
-/
module

public import proofs.«01_k».proof.Proof.Protocol

@[expose] public section

noncomputable section

namespace Cert.HaloProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop variants are needed. -/
abbrev 𝒱₀ : Variants := Variants.none

/-! ## What every device may consult, and what it still owes -/

/-- Every semaphore of the exchange follows the schedule, and has reached its round. -/
def records (K : Dev nD × Option (Bool × Bool) → ℕ) : sProp 𝕄 :=
  iprop((bigSep Finset.univ fun ck : Dev nD × Option (Bool × Bool) => cellInv ER (sched m ρ) (K ck) (kcell ck))
    ∗ bigSep Finset.univ fun ck : Dev nD × Option (Bool × Bool) => reached ER (kcell ck) 0)

/-- What every device may consult is not used up. -/
instance records_persistent (K : Dev nD × Option (Bool × Bool) → ℕ) : BI.Persistent (records (F := F) m ρ K) := by unfold records; infer_instance

variable (K : Dev nD × Option (Bool × Bool) → ℕ)

/-- It holds the invariant of each semaphore of the exchange, -/
theorem records_inv (ck : Dev nD × Option (Bool × Bool)) : records (F := F) m ρ K ⊢ cellInv ER (sched m ρ) (K ck) (kcell ck) := by
  unfold records
  iintro ⟨HI, -⟩
  iapply (show (bigSep Finset.univ fun ck : Dev nD × Option (Bool × Bool) => (cellInv ER (sched m ρ) (K ck) (kcell ck) : sProp 𝕄))
    ⊢ cellInv ER (sched m ρ) (K ck) (kcell ck) from bigSep_elim (Finset.mem_univ ck)); iexact HI
/-- and that each is at its first round. -/
theorem records_reached (ck : Dev nD × Option (Bool × Bool)) : records (F := F) m ρ K ⊢ reached ER (kcell ck) 0 := by
  unfold records
  iintro ⟨-, HR⟩
  iapply (show (bigSep Finset.univ fun ck : Dev nD × Option (Bool × Bool) => (reached ER (kcell ck) 0 : sProp 𝕄))
    ⊢ reached ER (kcell ck) 0 from bigSep_elim (Finset.mem_univ ck)); iexact HR

/-- The invariant of a device's barrier. -/
theorem inv_bar (c : Dev nD) : records (F := F) m ρ K ⊢ cellInv ER (sched m ρ) (K (c, none)) (barCell c) := records_inv m ρ K (c, none)
/-- The invariant of a device's send semaphore of side `s`. -/
theorem inv_send (s : Bool) (c : Dev nD) : records (F := F) m ρ K ⊢ cellInv ER (sched m ρ) (K (c, some (false, s))) (sendCell s c) := records_inv m ρ K (c, some (false, s))
/-- The invariant of a device's receive semaphore of side `s`. -/
theorem inv_recv (s : Bool) (c : Dev nD) : records (F := F) m ρ K ⊢ cellInv ER (sched m ρ) (K (c, some (true, s))) (recvCell s c) := records_inv m ρ K (c, some (true, s))
/-- A barrier is at its first round. -/
theorem reached_bar (c : Dev nD) : records (F := F) m ρ K ⊢ reached ER (barCell c) 0 := records_reached m ρ K (c, none)
/-- A send semaphore is at its first round. -/
theorem reached_send (s : Bool) (c : Dev nD) : records (F := F) m ρ K ⊢ reached ER (sendCell s c) 0 := records_reached m ρ K (c, some (false, s))
/-- A receive semaphore is at its first round. -/
theorem reached_recv (s : Bool) (c : Dev nD) : records (F := F) m ρ K ⊢ reached ER (recvCell s c) 0 := records_reached m ρ K (c, some (true, s))

/-- Device `c` owes `O`, whatever it has waited for. -/
def due (c : Dev nD) (O : CellTallies nD τ sig Unit) : sProp 𝕄 := iprop(∃ W : Waits sig Unit, owes (c : Thread nD τ) O W)

omit [FloatOps F] in
/-- A resource is there under a condition or under its negation. -/
theorem opt_split (b : Bool) (P : sProp 𝕄) : P ⊢ iprop(opt b P ∗ opt (!b) P) := by
  cases b
  · rw [opt_false, Bool.not_false, opt_true]; exact (emp_sep (PROP := sProp 𝕄)).2
  · rw [opt_true, Bool.not_true, opt_false]; exact (sep_emp (PROP := sProp 𝕄)).2

/-! ## The signal -/

section Ops

/-- Signalling the neighbour on side `s`, if there is one: it pays the unit owed and hands over slot `s` of `c`. -/
theorem wp_signal_opt (s : Bool) (c : Dev nD) {C : Prop} [Decidable C] (hC : C ↔ has s c = true) {d : C → Dev nD} (hd : ∀ h, d h = nb s c)
    {α : Type} {Q : α → sProp 𝕄} {k : Prog (TpuEff nD τ sig (Elt F) Λ₀ .tc) α} (O : CellTallies nD τ sig Unit) :
    iprop(records m ρ K ∗ due c (O + oweBar s c) ∗ opt (has s c) iprop(dutyTok ER (barCell (nb s c)) 0 (!s) ∗ ∃ f, slotPts s c f))
      ⊢ iprop((due c O -∗ wp frame (wpE (defs₀ (F := F)) 𝒱₀ (c : Thread nD τ) none) Set.univ k Q)
          -∗ wp frame (wpE (defs₀ (F := F)) 𝒱₀ (c : Thread nD τ) none) Set.univ
              (if h : C then .op (.semSignal (d h, Proc.tc) barS (1#32 : BitVec 32).toInt) (fun _ => k) else k) Q) := by
  by_cases hs : has s c = true
  · rw [dif_pos (hC.mpr hs), hd, hs, opt_true]
    unfold due oweBar
    rw [if_pos hs]
    iintro ⟨#HR, ⟨%W, HO⟩, Ht, ⟨%f, Hp⟩⟩ Hk
    iapply (Rounds.wp_signal 𝒱₀ ER (sched m ρ) (c : Thread nD τ) none (dst := (nb s c : Thread nD τ)) (κ := K (nb s c, none)) (r := 0)
        (d := !s) (by rw [duties_bar, Finset.mem_filter]; exact ⟨Finset.mem_univ _, (has_nb s c).trans hs⟩)
        ((amount_bar m ρ (!s) (nb s c)).trans (by decide)) () O rfl) $$ [HO Ht Hp]
    · isplitr; · iapply (inv_bar m ρ K (nb s c)); iexact HR
      isplitl [HO]; · iexact HO
      isplitl [Ht]; · iexact Ht
      isplitl [Hp]
      · rw [payload_bar]; unfold barPay; rw [nb_nb, Bool.not_not]
        isplitl [Hp]; · iexists f; iexact Hp
        iapply (reached_recv m ρ K s c); iexact HR
      · iapply (reached_bar m ρ K (nb s c)); iexact HR
    iintro HO
    iapply Hk
    iexists W; iexact HO
  · rw [dif_neg fun h => hs (hC.mp h), Bool.eq_false_iff.mpr hs, opt_false]
    unfold due oweBar
    rw [if_neg hs, add_zero]
    iintro ⟨-, HO, -⟩ Hk
    iapply Hk; iexact HO

/-! ## The wait for the neighbours -/

/-- A device with neighbours on both sides has two, -/
theorem count_both {c : Dev nD} (h0 : has false c = true) (h1 : has true c = true) : count c = 2 := by
  revert c; decide +kernel
/-- and any other has one. -/
theorem count_one {c : Dev nD} (h : ¬ (has false c = true ∧ has true c = true)) : count c = 1 := by
  revert c; decide +kernel

/-- A wait of the barrier for all that is left of its round. -/
theorem wp_wait_last (c : Dev nD) (mm : ℕ) (T : Finset Bool) (hmm : mm + 1 = count c) (W : Waits sig Unit)
    {α : Type} {Q : α → sProp 𝕄} {k : PUnit → Prog (TpuEff nD τ sig (Elt F) Λ₀ .tc) α} :
    iprop(records m ρ K ∗ cred (tallyAt (barCell c) () 1) ∗ owes (c : Thread nD τ) (owedRows c) W ∗ levAts L lv ∗ atPos ER (barCell c) 0 T mm)
      ⊢ iprop(((due c (owedRows c) ∗ semVal (barCell c) 0
              ∗ bigSep ((sched m ρ).duties (barCell c) 0 \ T) (fun d => (sched m ρ).payload (barCell c) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32 : BitVec 32).toInt) k) Q) := by
  iintro ⟨#HR, Hc, HO, #Hlev, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := owedRows c) (W := W) (R := 0) (m := mm) (T := T)
      (by rw [expect_bar, ← hmm]; rfl)) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  imod (Rounds.cell_close ER (sched m ρ) (Set.mem_univ (K (c, none))) (fun h => h) (R := 0 + 1) (duties_later m ρ (barCell c))) $$ [Hat] with Hz
  · isplitr; · iapply (inv_bar m ρ K c); iexact HR
    iexact Hat
  iapply Hk
  isplitl [HO]; · unfold due; iexists _; iexact HO
  isplitl [Hz]; · iexact Hz
  iexact Hpay

/-- The two guarded waits on the barrier, of one unit each: a unit per neighbour, and with the units each neighbour's
    slot. Between the two waits of a device with both neighbours it is not known which neighbour's unit has come. -/
theorem wp_wait_neighbours (c : Dev nD) {CL CR : Prop} [Decidable CL] [Decidable CR] (hL : CL ↔ has false c = true) (hR : CR ↔ has true c = true)
    {α : Type} {Q : α → sProp 𝕄} {k : Prog (TpuEff nD τ sig (Elt F) Λ₀ .tc) α} :
    iprop(records m ρ K ∗ cred (tallyAt (barCell c) () (count c)) ∗ due c (owedRows c) ∗ levAts L lv ∗ atPos ER (barCell c) 0 ∅ 0)
      ⊢ iprop(((due c (owedRows c) ∗ semVal (barCell c) 0 ∗ opt (has false c) (barPay false c) ∗ opt (has true c) (barPay true c))
            -∗ wp frame (wpE (defs₀ (F := F)) 𝒱₀ (c : Thread nD τ) none) Set.univ k Q)
          -∗ wp frame (wpE (defs₀ (F := F)) 𝒱₀ (c : Thread nD τ) none) Set.univ
              (if hl : CL then .op (.semWait barS (1#32 : BitVec 32).toInt)
                  (fun _ => if hr : CR then .op (.semWait barS (1#32 : BitVec 32).toInt) (fun _ => k) else k)
                else if hr : CR then .op (.semWait barS (1#32 : BitVec 32).toInt) (fun _ => k) else k) Q) := by
  rw [← bar_payloads m ρ c]
  iintro ⟨#HR, Hc, HO, #Hlev, Hat⟩ Hk
  unfold due
  icases HO with ⟨%W, HO⟩
  by_cases h0 : has false c = true
  · rw [dif_pos (hL.mpr h0)]
    by_cases h1 : has true c = true
    · rw [dif_pos (hR.mpr h1), count_both h0 h1]
      ihave Hc2 := (show (cred (tallyAt (barCell c) () 2) : sProp 𝕄) ⊢ iprop(cred (tallyAt (barCell c) () 1) ∗ cred (tallyAt (barCell c) () 1)) from by
        rw [show (2 : ℕ) = 1 + 1 from rfl, ← tallyAt_add]; exact (cred_add _ _).1) $$ Hc
      icases Hc2 with ⟨Hc, Hc'⟩
      iapply (Rounds.wp_wait 𝒱₀ ER (sched m ρ) (c : Thread nD τ) none (κ := K (c, none))
          (wpE_semWait_eq 𝒱₀ (c : Thread nD τ) none Set.univ) (Set.mem_univ _) (cr := Finsupp.single () 1) (O := owedRows c) (W := W)
          {(SemLoc.reg barS, ())} (R := 0) (m := 0) (T := ∅) (by rw [Util.total_single]; decide) (image_single_subset _ () _)) $$ [Hc HO Hat]
      · isplitr; · iapply (inv_bar m ρ K c); iexact HR
        isplitl [Hc]; · iexact Hc
        isplitl [HO]; · iexact HO
        isplitr; · iapply (mayWait_bar c); iexact Hlev
        iexact Hat
      iintro %S ⟨%hS, HO, Hat, Hpay⟩
      iapply (wp_wait_last m ρ K c 1 S (count_both h0 h1).symm _) $$ [Hc' HO Hat]
      · isplitr; · iexact HR
        isplitl [Hc']; · iexact Hc'
        isplitl [HO]; · iexact HO
        isplitr; · iexact Hlev
        iexact Hat
      iintro ⟨HO, Hz, Hpay'⟩
      iapply Hk
      isplitl [HO]; · unfold due; iexact HO
      isplitl [Hz]; · iexact Hz
      iapply (Entails.of_eq (show iprop(bigSep S (fun d => (sched m ρ).payload (barCell c) 0 d) ∗ bigSep ((sched m ρ).duties (barCell c) 0 \ S) (fun d => (sched m ρ).payload (barCell c) 0 d))
        = bigSep ((sched m ρ).duties (barCell c) 0) (fun d => (sched m ρ).payload (barCell c) 0 d) from (bigSep_sdiff_split hS.2.1).symm))
      isplitl [Hpay]; · rw [Finset.sdiff_empty]; iexact Hpay
      iexact Hpay'
    · rw [dif_neg fun h => h1 (hR.mp h), count_one fun h => h1 h.2]
      iapply (wp_wait_last m ρ K c 0 ∅ (count_one fun h => h1 h.2).symm W) $$ [Hc HO Hat]
      · isplitr; · iexact HR
        isplitl [Hc]; · iexact Hc
        isplitl [HO]; · iexact HO
        isplitr; · iexact Hlev
        iexact Hat
      rw [Finset.sdiff_empty]
      iexact Hk
  · rw [dif_neg fun h => h0 (hL.mp h), dif_pos (hR.mpr ((has_or c).resolve_left h0)), count_one fun h => h0 h.1]
    iapply (wp_wait_last m ρ K c 0 ∅ (count_one fun h => h0 h.1).symm W) $$ [Hc HO Hat]
    · isplitr; · iexact HR
      isplitl [Hc]; · iexact Hc
      isplitl [HO]; · iexact HO
      isplitr; · iexact Hlev
      iexact Hat
    rw [Finset.sdiff_empty]
    iexact Hk

/-! ## The transfer -/

/-- What landing the row on side `s` of `c` makes of the neighbour's slot is what that slot is to hold. -/
theorem landing (s : Bool) (c : Dev nD) (hs : has s c = true) (f : Buf (Elt F) ((slotM (!s)).view.loc (nb s c : Thread nD τ))) :
    (((slotM (!s)).view.loc (nb s c : Thread nD τ)) ↦[(slotM (!s)).view.set]{fullShare}
        ((slotM (!s)).view.write (Elt F) f ((edgeM s).view.read (Elt F) (xstg m ρ c)) Finset.univ) : sProp 𝕄)
      ⊢ slotPts (!s) (nb s c) (slotAt m ρ (!s) (nb s c)) := by
  unfold slotPts slotAt
  rw [if_pos ((has_nb s c).trans hs), Bool.not_not, nb_nb]
  exact Entails.of_eq (View.pointsTo_write_univ_congr (c := (nb s c : Thread nD τ)) (slotM (!s)).view fullShare f zeroed _)

/-- Sending the edge row to the neighbour on side `s`, if there is one. -/
theorem wp_send_opt (s : Bool) (c : Dev nD) {C : Prop} [Decidable C] (hC : C ↔ has s c = true) {d : C → Dev nD} (hd : ∀ h, d h = nb s c)
    {hsc : ∀ h : C, (slotM (!s) : Memref sig (Dev.tc (d h) : Thread nD τ).2.kind .vmem S1x512 .f32).view.ref.isScScratch = false}
    {hsrc : C → (edgeM s : Memref sig .tc .vmem S1x512 .f32).view.WordExact} {hdst : C → (slotM (!s) : Memref sig .tc .vmem S1x512 .f32).view.WordExact}
    {hsem : ∀ h : C, DmaTarget.Typed .vmem (.dma (recvS (!s))) (.remote (Dev.tc (d h) : Thread nD τ) (slotM (!s)) (.dma (sendS s)) (hsc h))}
    {α : Type} {Q : α → sProp 𝕄} {k : Prog (TpuEff nD τ sig (Elt F) Λ₀ .tc) α} (O : CellTallies nD τ sig Unit) :
    iprop(records m ρ K ∗ due c (O + oweRow s c)
        ∗ opt (has s c) iprop(edgePts m ρ s c ∗ barPay s c ∗ dutyTok ER (sendCell s c) 0 false ∗ dutyTok ER (recvCell (!s) (nb s c)) 0 false))
      ⊢ iprop((due c O ∗ opt (has s c) (cred (tallyAt (sendCell s c) () N)) -∗ wp frame (wpE (defs₀ (F := F)) 𝒱₀ (c : Thread nD τ) none) Set.univ k Q)
          -∗ wp frame (wpE (defs₀ (F := F)) 𝒱₀ (c : Thread nD τ) none) Set.univ
              (if h : C then .op (.enqueueDma (edgeM s) (.remote (Dev.tc (d h) : Thread nD τ) (slotM (!s)) (.dma (sendS s)) (hsc h)) (.dma (recvS (!s))) (hsrc h) (hdst h) (hsem h))
                (fun _ => k) else k) Q) := by
  by_cases hs : has s c = true
  · have hc := hC.mpr hs
    rw [dif_pos hc, hs, opt_true, opt_true]
    have hdc := hd hc
    generalize hsc hc = hsc', hsem hc = hsem'
    revert hsc' hsem'
    rw [hdc]
    intro hsc' hsem'
    unfold due oweRow barPay
    rw [if_pos hs]
    iintro ⟨#HR, ⟨%W, HO⟩, Hx, ⟨⟨%f, Hp⟩, #Hr⟩, Hts, Htr⟩ Hk
    unfold edgePts slotPts
    iapply (Rounds.wp_send_pointsTo 𝒱₀ ER (sched m ρ) (c : Thread nD τ) none (κ₁ := K (c, some (false, s))) (κ₂ := K (nb s c, some (true, !s)))
      (r₁ := 0) (r₂ := 0) (d₁ := false) (d₂ := false) (fd := f)
      (by rw [duties_send m ρ s c hs]; exact Finset.mem_singleton_self _)
      (by rw [duties_recv m ρ (!s) (nb s c) ((has_nb s c).trans hs)]; exact Finset.mem_singleton_self _)
      () () N (by exact slot_credit (!s)) (amount_send m ρ s false c) (amount_recv m ρ (!s) false (nb s c)) O rfl (W := W)
      (by rw [payload_send]; unfold edgePts; exact BI.Entails.refl _)
      (by rw [payload_recv]; exact landing m ρ s c hs f)) $$ [HO Hx Hp Hts Htr]
    · isplitr; · iapply (inv_send m ρ K s c); iexact HR
      isplitr; · iapply (inv_recv m ρ K (!s) (nb s c)); iexact HR
      isplitl [Hx]; · iexact Hx
      isplitl [Hp]; · iexact Hp
      isplitl [HO]; · iexact HO
      isplitl [Hts]; · iexact Hts
      isplitr; · iapply (reached_send m ρ K s c); iexact HR
      isplitl [Htr]; · iexact Htr
      iexact Hr
    iintro ⟨Hc, HO⟩
    iapply Hk
    isplitl [HO]; · iexists W; iexact HO
    iexact Hc
  · rw [dif_neg fun h => hs (hC.mp h), Bool.eq_false_iff.mpr hs, opt_false, opt_false]
    unfold due oweRow
    rw [if_neg hs, add_zero]
    iintro ⟨-, HO, -⟩ Hk
    iapply Hk
    isplitl [HO]; · iexact HO
    iempintro

/-! ## The waits for the transfers -/

/-- A guarded wait on one of `c`'s transfer semaphores `q`, owing nothing: where the neighbour exists it takes the row's
    credit and yields the semaphore's payload `P`; where not, `P` was never given away. -/
theorem wp_wait_opt (b : Bool) (c : Dev nD) (q : DmaSem sig) (κ : ℕ) (P : sProp 𝕄)
    (hduty : b = true → (sched (F := F) m ρ).duties ((c : Thread nD τ), .dma q) 0 = {false})
    (hnone : ¬ b = true → (sched (F := F) m ρ).duties ((c : Thread nD τ), .dma q) 0 = ∅)
    (hexp : b = true → (sched (F := F) m ρ).expect ((c : Thread nD τ), .dma q) 0 = N)
    (hpay : (sched (F := F) m ρ).payload ((c : Thread nD τ), .dma q) 0 false = P)
    {C : Prop} [Decidable C] (hC : C ↔ b = true)
    {src dst : Memref sig .tc .vmem S1x512 .f32} {hsrc : C → src.view.WordExact} {hdst : C → dst.view.WordExact} (hN : dst.view.dmaCredit = N)
    {α : Type} {Q : α → sProp 𝕄} {k : Prog (TpuEff nD τ sig (Elt F) Λ₀ .tc) α} :
    iprop(cellInv ER (sched m ρ) κ ((c : Thread nD τ), .dma q) ∗ opt b (cred (tallyAt ((c : Thread nD τ), SemLoc.dma q) () N)) ∗ due c 0
        ∗ atPos ER ((c : Thread nD τ), .dma q) 0 ∅ 0 ∗ opt (!b) P)
      ⊢ iprop(((due c 0 ∗ semVal ((c : Thread nD τ), .dma q) 0 ∗ P) -∗ wp frame (wpE (defs₀ (F := F)) 𝒱₀ (c : Thread nD τ) none) Set.univ k Q)
          -∗ wp frame (wpE (defs₀ (F := F)) 𝒱₀ (c : Thread nD τ) none) Set.univ
              (if h : C then .op (.waitDma2 q src dst (hsrc h) (hdst h)) (fun _ => k) else k) Q) := by
  by_cases hb : b = true
  · rw [dif_pos (hC.mpr hb)]
    subst hb
    unfold due
    rw [opt_true]
    iintro ⟨#HI, Hc, ⟨%W, HO⟩, Hat, -⟩ Hk
    iapply (Rounds.wp_wait_rest_token 𝒱₀ ER (sched m ρ) (c : Thread nD τ) none (κ := κ)
      (wpE_waitDma2_eq 𝒱₀ (c : Thread nD τ) none Set.univ) (Set.mem_univ _) () (O := 0) (W := W) (R := 0) (m := 0) (T := ∅)
      (by rw [Nat.zero_add, hN, hexp rfl])) $$ [Hc HO Hat]
    · isplitr; · iexact HI
      isplitl [Hc]; · rw [hN]; iexact Hc
      isplitl [HO]; · iexact HO
      isplitr; · rw [MayWait_zero]; iempintro
      iexact Hat
    iintro ⟨HO, Hat, -, Hpay⟩
    imod (Rounds.cell_close ER (sched m ρ) (Set.mem_univ κ) (fun h => h) (R := 0 + 1) (duties_later m ρ _)) $$ [Hat] with Hz
    · isplitr; · iexact HI
      iexact Hat
    iapply Hk
    isplitl [HO]; · iexists _; iexact HO
    isplitl [Hz]; · iexact Hz
    iapply (Entails.of_eq (show bigSep ((sched m ρ).duties ((c : Thread nD τ), .dma q) 0 \ ∅) (fun d => (sched m ρ).payload ((c : Thread nD τ), .dma q) 0 d) = P from by
      rw [Finset.sdiff_empty, hduty rfl, bigSep_singleton, hpay]))
    iexact Hpay
  · rw [dif_neg fun h => hb (hC.mp h)]
    rw [Bool.eq_false_iff.mpr hb, Bool.not_false, opt_true, opt_false]
    iintro ⟨#HI, -, HO, Hat, HP⟩ Hk
    imod (Rounds.cell_close ER (sched m ρ) (Set.mem_univ κ) (fun h => h) (R := 0) (fun r _ => by
      rcases Nat.eq_zero_or_pos r with rfl | hr
      · exact hnone hb
      · exact duties_later m ρ _ r hr)) $$ [Hat] with Hz
    · isplitr; · iexact HI
      iexact Hat
    iapply Hk
    isplitl [HO]; · iexact HO
    isplitl [Hz]; · iexact Hz
    iexact HP

/-- The wait for the row to come in on side `s`: the slot at its final contents. -/
theorem wp_recv_opt (s : Bool) (c : Dev nD) {C : Prop} [Decidable C] (hC : C ↔ has s c = true)
    {src dst : Memref sig .tc .vmem S1x512 .f32} {hsrc : C → src.view.WordExact} {hdst : C → dst.view.WordExact} (hN : dst.view.dmaCredit = N)
    {α : Type} {Q : α → sProp 𝕄} {k : Prog (TpuEff nD τ sig (Elt F) Λ₀ .tc) α} :
    iprop(records m ρ K ∗ opt (has s c) (cred (tallyAt (recvCell s c) () N)) ∗ due c 0
        ∗ atPos ER (recvCell s c) 0 ∅ 0 ∗ opt (!has s c) (slotPts s c (zeroed (F := F))))
      ⊢ iprop(((due c 0 ∗ semVal (recvCell s c) 0 ∗ slotPts s c (slotAt m ρ s c)) -∗ wp frame (wpE (defs₀ (F := F)) 𝒱₀ (c : Thread nD τ) none) Set.univ k Q)
          -∗ wp frame (wpE (defs₀ (F := F)) 𝒱₀ (c : Thread nD τ) none) Set.univ
              (if h : C then .op (.waitDma2 (recvS s) src dst (hsrc h) (hdst h)) (fun _ => k) else k) Q) := by
  iintro ⟨#HR, Hc, HO, Hat, Hp⟩
  iapply (wp_wait_opt m ρ (has s c) c (recvS s) (K (c, some (true, s))) (slotPts s c (slotAt m ρ s c)) (duties_recv m ρ s c)
    (duties_recv_none m ρ s c) (expect_recv m ρ s c) (payload_recv m ρ s false c) hC hN)
  isplitr; · iapply (inv_recv m ρ K s c); iexact HR
  isplitl [Hc]; · iexact Hc
  isplitl [HO]; · iexact HO
  isplitl [Hat]; · iexact Hat
  iapply (show opt (!has s c) (slotPts s c (zeroed (F := F))) ⊢ opt (!has s c) (slotPts s c (slotAt m ρ s c)) from by
    unfold slotAt
    by_cases hs : has s c = true
    · rw [hs]; exact BI.Entails.refl _
    · rw [if_neg hs])
  iexact Hp

/-- The wait for the row sent on side `s` to have left: the edge row back. -/
theorem wp_sent_opt (s : Bool) (c : Dev nD) {C : Prop} [Decidable C] (hC : C ↔ has s c = true)
    {src dst : Memref sig .tc .vmem S1x512 .f32} {hsrc : C → src.view.WordExact} {hdst : C → dst.view.WordExact} (hN : dst.view.dmaCredit = N)
    {α : Type} {Q : α → sProp 𝕄} {k : Prog (TpuEff nD τ sig (Elt F) Λ₀ .tc) α} :
    iprop(records m ρ K ∗ opt (has s c) (cred (tallyAt (sendCell s c) () N)) ∗ due c 0
        ∗ atPos ER (sendCell s c) 0 ∅ 0 ∗ opt (!has s c) (edgePts m ρ s c))
      ⊢ iprop(((due c 0 ∗ semVal (sendCell s c) 0 ∗ edgePts m ρ s c) -∗ wp frame (wpE (defs₀ (F := F)) 𝒱₀ (c : Thread nD τ) none) Set.univ k Q)
          -∗ wp frame (wpE (defs₀ (F := F)) 𝒱₀ (c : Thread nD τ) none) Set.univ
              (if h : C then .op (.waitDma2 (sendS s) src dst (hsrc h) (hdst h)) (fun _ => k) else k) Q) := by
  iintro ⟨#HR, Hc, HO, Hat, Hp⟩
  iapply (wp_wait_opt m ρ (has s c) c (sendS s) (K (c, some (false, s))) (edgePts m ρ s c) (duties_send m ρ s c)
    (duties_send_none m ρ s c) (expect_send m ρ s c) (payload_send m ρ s false c) hC hN)
  isplitr; · iapply (inv_send m ρ K s c); iexact HR
  isplitl [Hc]; · iexact Hc
  isplitl [HO]; · iexact HO
  isplitl [Hat]; · iexact Hat
  iexact Hp

end Ops

end Cert.HaloProof

end
-- ==== Proof.Body.lean ====
/-
# The kernel's body

The values the body computes, the buffers cut into the parts the transfers move, and the body run once for a device `c`
of the line, wherever it stands.
-/
module

public import proofs.«01_k».proof.Proof.Ops
public import Idealize.ShloMosaic.Lib.Writes
public import Idealize.ShloMosaic.Lib.WritesUnit
public import Idealize.ShloMosaic.Lib.ReshapeSlab

@[expose] public section

noncomputable section

namespace Cert.HaloProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- The 510 rows from row 0. -/
abbrev mid0 : Rect S512x512 := Rect.unit (s := S512x512) ![0, 0] S510x512.size inb_S512x512_S510x512_0_0
/-- The 510 rows from row 1. -/
abbrev mid1 : Rect S512x512 := Rect.unit (s := S512x512) ![1, 0] S510x512.size inb_S512x512_S510x512_1_0
/-- The 510 rows from row 2. -/
abbrev mid2 : Rect S512x512 := Rect.unit (s := S512x512) ![2, 0] S510x512.size inb_S512x512_S510x512_2_0
/-- The first row. -/
abbrev row0 : Rect S512x512 := Rect.unit (s := S512x512) ![0, 0] S1x512.size inb_S512x512_S1x512_0_0
/-- The second row. -/
abbrev row1 : Rect S512x512 := Rect.unit (s := S512x512) ![1, 0] S1x512.size inb_S512x512_S1x512_1_0
/-- The last row but one. -/
abbrev row510 : Rect S512x512 := Rect.unit (s := S512x512) ![510, 0] S1x512.size inb_S512x512_S1x512_510_0
/-- The last row. -/
abbrev row511 : Rect S512x512 := Rect.unit (s := S512x512) ![511, 0] S1x512.size inb_S512x512_S1x512_511_0

/-- What device `c` reads of its block through `r`. -/
def xread (r : Rect S512x512) (c : Dev nD) : r.shape.Idx → Elt F .f32 := xM.view.readAt (Elt F) r.toLoadRect (xstg m ρ c)
/-- What device `c` reads of its halo row on side `s` once that is filled. -/
def haloread (s : Bool) (c : Dev nD) : (slotR s).shape.Idx → Elt F .f32 := hM.view.readAt (Elt F) (slotR s).toLoadRect (slotAt m ρ s c)

/-- Rows 1 to 510 of the result. -/
def midOut (c : Dev nD) : FVec F S510x512 .f32 := k0_pay6 (k0_pay4 (xread m ρ mid0 c)) k0_pay5 (xread m ρ mid1 c) (xread m ρ mid2 c)
/-- Row 0 of the result. -/
def topOut (c : Dev nD) : FVec F S1x512 .f32 :=
  k0_pay1 (k0_pay7 (xread m ρ row0 c) (xread m ρ row1 c)) (Scalar.cmpi .eq (word c) 0#32) (xread m ρ row0 c) (haloread m ρ false c)
/-- Row 511 of the result. -/
def botOut (c : Dev nD) : FVec F S1x512 .f32 :=
  k0_pay2 (word c) (k0_pay8 (xread m ρ row510 c) (xread m ρ row511 c)) (xread m ρ row511 c) (haloread m ρ true c)

/-- The stores of the body, the last first. -/
def stores (c : Dev nD) : List (View.Piece (Elt F) S512x512 .f32) := [⟨row511, botOut m ρ c⟩, ⟨row0, topOut m ρ c⟩, ⟨mid1, midOut m ρ c⟩]

/-- The result: the stores, over whatever the buffer held. -/
def outAt (c : Dev nD) : (cc0_stg1_0 : Ref sig .tc).ty.Contents (Elt F) := oM.view.writes (Elt F) (xstg m ρ c) (stores m ρ c)

/-- The stores leave no row of the result as it was. -/
theorem stores_cover (c : Dev nD) (y : S512x512.Idx) : ∃ p ∈ stores m ρ c, y ∈ p.1.set := by
  have h0 : (y 0).val < 512 := (y 0).isLt
  have h1 : (y 1).val < 512 := (y 1).isLt
  unfold stores
  have hin : ∀ (o n : ℕ) (inb : ∀ a, (![o, 0] : Fin 2 → Nat) a + (![n, 512] : Fin 2 → Nat) a ≤ S512x512.size a), o ≤ (y 0).val → (y 0).val < o + n →
      y ∈ (Rect.unit (s := S512x512) ![o, 0] ![n, 512] inb).set := fun o n inb h h' => by
    rw [Rect.mem_set_unit]
    exact Fin.forall_fin_two.mpr ⟨⟨h, h'⟩, Nat.zero_le _, (Nat.zero_add 512).symm ▸ h1⟩
  by_cases hb : (y 0).val = 511
  · exact ⟨_, List.mem_cons_self .., hin 511 1 (by decide) (by omega) (by omega)⟩
  · by_cases ht : (y 0).val = 0
    · exact ⟨_, List.mem_cons_of_mem _ (List.mem_cons_self ..), hin 0 1 (by decide) (by omega) (by omega)⟩
    · exact ⟨_, List.mem_cons_of_mem _ (List.mem_cons_of_mem _ (List.mem_cons_self ..)), hin 1 510 (by decide) (by omega) (by omega)⟩

/-- The stores leave the same result over any earlier contents, since they cover the buffer. -/
theorem out_eq (c : Dev nD) (f : (cc0_stg1_0 : Ref sig .tc).ty.Contents (Elt F)) : oM.view.writes (Elt F) f (stores m ρ c) = outAt m ρ c := by
  have h := View.read_writes_of_cover oM.view f oM.view (xstg m ρ c) (stores m ρ c) (stores_cover m ρ c)
  exact (View.read_whole _ _).symm.trans (h.trans (View.read_whole _ _))

/-! ## The buffers in parts -/

/-- The elements of a halo row are those of its rectangle. -/
theorem slot_set (s : Bool) : slotSet s = (hM.view.slice (slotR s)).set := View.set_reshape _ _

/-- The two edge rows share no element. -/
theorem edges_apart : Disjoint (edgeSet true) (edgeSet false) :=
  View.disjoint_slice_of_sep xM.view (edgeR true) (edgeR false) 0 rfl rfl (.inr (by decide))
/-- The two halo rows share no element. -/
theorem slots_apart : Disjoint (slotSet true) (slotSet false) := by
  rw [slot_set, slot_set]
  exact View.disjoint_slice_of_sep hM.view (slotR true) (slotR false) 0 rfl rfl (.inr (by decide))

/-- A set apart from another lies in what that one leaves. -/
theorem sub_rest {ι : Type} [Fintype ι] [DecidableEq ι] {A B : Finset ι} (h : Disjoint A B) : A ⊆ Finset.univ \ B := fun i hi =>
  Finset.mem_sdiff.mpr ⟨Finset.mem_univ _, Finset.disjoint_left.mp h hi⟩

/-- The block at the half share kept for reading. -/
def xKept (c : Dev nD) : sProp 𝕄 := ((c : Thread nD τ).loc cc0_stg0_0) ↦{fullShare.left} xstg m ρ c
/-- What is left of the half share for lending beside the two edge rows. -/
def xRest (c : Dev nD) : sProp 𝕄 :=
  ((c : Thread nD τ).loc cc0_stg0_0) ↦[(Finset.univ \ edgeSet false) \ edgeSet true]{fullShare.right} xstg m ρ c

omit [FloatOps F] in
/-- The block held outright is the half kept for reading, the two edge rows lent, and the rest. -/
theorem x_split (c : Dev nD) : (((c : Thread nD τ).loc cc0_stg0_0) ↦{fullShare} xstg m ρ c : sProp 𝕄)
    ⊣⊢ iprop(xKept m ρ c ∗ edgePts m ρ false c ∗ edgePts m ρ true c ∗ xRest m ρ c) := by
  unfold xKept edgePts xRest
  have h1 := pointsTo_share (nD := nD) (τ := τ) (sig := sig) (Ix := Unit) (Val := Elt F) (Name := ℕ) (U := UU) (Lvl := ℕ)
    (ℓ := ((c : Thread nD τ).loc cc0_stg0_0)) (I := Finset.univ) (f := xstg m ρ c) (PosShare.mem_left_op_right fullShare)
  have h2 := pointsTo_split_subset (nD := nD) (τ := τ) (sig := sig) (Ix := Unit) (Val := Elt F) (Name := ℕ) (U := UU) (Lvl := ℕ)
    (ℓ := ((c : Thread nD τ).loc cc0_stg0_0)) (q := fullShare.right) (f := xstg m ρ c) (Finset.subset_univ (edgeSet false))
  have h3 := pointsTo_split_subset (nD := nD) (τ := τ) (sig := sig) (Ix := Unit) (Val := Elt F) (Name := ℕ) (U := UU) (Lvl := ℕ)
    (ℓ := ((c : Thread nD τ).loc cc0_stg0_0)) (q := fullShare.right) (f := xstg m ρ c) (sub_rest edges_apart)
  exact ⟨h1.1.trans (sep_mono_right (h2.1.trans (sep_mono_right h3.1))), (sep_mono_right ((sep_mono_right h3.2).trans h2.2)).trans h1.2⟩

/-- What the halo buffer is beside its two rows (nothing, but that need not be known). -/
def hRest (c : Dev nD) (f : Buf (Elt F) ((c : Thread nD τ).loc cc0_scratch0)) : sProp 𝕄 :=
  ((c : Thread nD τ).loc cc0_scratch0) ↦[(Finset.univ \ slotSet false) \ slotSet true]{fullShare} f

omit [FloatOps F] in
/-- The halo buffer held outright parts into its two rows and the rest, -/
theorem halo_split (c : Dev nD) (f : Buf (Elt F) ((c : Thread nD τ).loc cc0_scratch0)) :
    (((c : Thread nD τ).loc cc0_scratch0) ↦{fullShare} f : sProp 𝕄) ⊢ iprop(slotPts false c f ∗ slotPts true c f ∗ hRest c f) := by
  unfold slotPts hRest
  exact (pointsTo_split_subset (Finset.subset_univ (slotSet false))).1.trans (sep_mono_right (pointsTo_split_subset (sub_rest slots_apart)).1)
omit [FloatOps F] in
/-- and comes together again, whatever the rows hold by then. -/
theorem halo_join (c : Dev nD) (f0 f1 f : Buf (Elt F) ((c : Thread nD τ).loc cc0_scratch0)) :
    iprop(slotPts false c f0 ∗ slotPts true c f1 ∗ hRest c f) ⊢ (iprop(∃ f, ((c : Thread nD τ).loc cc0_scratch0) ↦{fullShare} f) : sProp 𝕄) := by
  unfold slotPts hRest
  refine (sep_mono_right (pointsTo_join_subset (sub_rest slots_apart))).trans ((pointsTo_join_subset (Finset.subset_univ (slotSet false))).trans ?_)
  iintro H
  iexists _; iexact H

/-! ## Reading and writing -/

section Access

variable (c : Dev nD)

/-- A load from the block reads it and leaves the share kept for reading as it was. -/
theorem wp_load_x (r : Rect S512x512) {hl : xM.view.LoadsAt r.toLoadRect} {α : Type} {Q : α → sProp 𝕄} {k : (r.shape.Idx → Elt F .f32) → Prog (TpuEff nD τ sig (Elt F) Λ₀ .tc) α} :
    xKept m ρ c ⊢ iprop((xKept m ρ c -∗ wp frame (wpE (defs₀ (F := F)) 𝒱₀ (c : Thread nD τ) none) Set.univ (k (xread m ρ r c)) Q)
      -∗ wp frame (wpE (defs₀ (F := F)) 𝒱₀ (c : Thread nD τ) none) Set.univ (.op (.load xM r.toLoadRect hl) k) Q) := by
  unfold xKept
  exact wp_load 𝒱₀ (c : Thread nD τ) none Set.univ (m := xM) (Finset.subset_univ _)

/-- A load of a filled halo row reads it and leaves it as it was. -/
theorem wp_load_halo (s : Bool) {hl : hM.view.LoadsAt (slotR s).toLoadRect} {α : Type} {Q : α → sProp 𝕄} {k : ((slotR s).shape.Idx → Elt F .f32) → Prog (TpuEff nD τ sig (Elt F) Λ₀ .tc) α} :
    slotPts s c (slotAt m ρ s c) ⊢ iprop((slotPts s c (slotAt m ρ s c) -∗ wp frame (wpE (defs₀ (F := F)) 𝒱₀ (c : Thread nD τ) none) Set.univ (k (haloread m ρ s c)) Q)
      -∗ wp frame (wpE (defs₀ (F := F)) 𝒱₀ (c : Thread nD τ) none) Set.univ (.op (.load hM (slotR s).toLoadRect hl) k) Q) := by
  unfold slotPts
  exact wp_load_rect 𝒱₀ (c : Thread nD τ) none Set.univ (m := hM) (r := slotR s) (by rw [slot_set])

omit [FloatOps F] in
/-- A store over the whole halo buffer leaves the stored contents. -/
theorem write_halo (f w : (cc0_scratch0 : Ref sig .tc).ty.Contents (Elt F)) :
    (hM.access (Rect.unit (s := S2x1x512) ![0, 0, 0] S2x1x512.size inb_S2x1x512_S2x1x512_0_0_0) : View sig .tc _ _ _).write (Elt F) f w Finset.univ = w :=
  Memref.write_access_unit_zero_univ (Elt F) cc0_scratch0 (funext fun a => by fin_cases a <;> rfl) _ f w

/-- Overwriting the whole halo buffer. -/
theorem wp_store_halo (w f : (cc0_scratch0 : Ref sig .tc).ty.Contents (Elt F)) {hx : (hM.access (Rect.unit (s := S2x1x512) ![0, 0, 0] S2x1x512.size inb_S2x1x512_S2x1x512_0_0_0)).Stores Finset.univ}
    {hm} {α : Type} {Q : α → sProp 𝕄} {k : PUnit → Prog (TpuEff nD τ sig (Elt F) Λ₀ .tc) α} :
    (((c : Thread nD τ).loc cc0_scratch0) ↦{fullShare} f : sProp 𝕄)
      ⊢ iprop(((((c : Thread nD τ).loc cc0_scratch0) ↦{fullShare} w) -∗ wp frame (wpE (defs₀ (F := F)) 𝒱₀ (c : Thread nD τ) none) Set.univ (k ⟨⟩) Q)
      -∗ wp frame (wpE (defs₀ (F := F)) 𝒱₀ (c : Thread nD τ) none) Set.univ
        (.op (.store hM (Rect.unit (s := S2x1x512) ![0, 0, 0] S2x1x512.size inb_S2x1x512_S2x1x512_0_0_0) w Finset.univ hx hm) k) Q) := by
  iintro Hh Hk
  iapply (wp_store 𝒱₀ (c : Thread nD τ) none Set.univ (m := hM) (r := Rect.unit (s := S2x1x512) ![0, 0, 0] S2x1x512.size inb_S2x1x512_S2x1x512_0_0_0)
    (Mk := Finset.univ) (Finset.subset_univ _)) $$ Hh
  iintro Hh
  iapply Hk
  rw [write_halo]
  iexact Hh

/-- The staging buffer of the result, holding `f`. -/
def outPts (f : (cc0_stg1_0 : Ref sig .tc).ty.Contents (Elt F)) : sProp 𝕄 := ((c : Thread nD τ).loc cc0_stg1_0) ↦{fullShare} f

/-- Reading the result before it is overwritten: what is read is not used. -/
theorem wp_load_out (r : Rect S512x512) (f : (cc0_stg1_0 : Ref sig .tc).ty.Contents (Elt F)) {hl : oM.view.LoadsAt r.toLoadRect} {α : Type} {Q : α → sProp 𝕄}
    {k : Prog (TpuEff nD τ sig (Elt F) Λ₀ .tc) α} :
    outPts c f ⊢ iprop((outPts c f -∗ wp frame (wpE (defs₀ (F := F)) 𝒱₀ (c : Thread nD τ) none) Set.univ k Q)
      -∗ wp frame (wpE (defs₀ (F := F)) 𝒱₀ (c : Thread nD τ) none) Set.univ (.op (.load oM r.toLoadRect hl) (fun _ => k)) Q) := by
  unfold outPts
  exact wp_load 𝒱₀ (c : Thread nD τ) none Set.univ (m := oM) (r := r.toLoadRect) (k := fun _ => k) (Finset.subset_univ _)

/-- A store to the result is one more piece written. -/
theorem wp_store_out (r : Rect S512x512) (w : r.shape.Idx → Elt F .f32) (f : (cc0_stg1_0 : Ref sig .tc).ty.Contents (Elt F)) (ps : List (View.Piece (Elt F) S512x512 .f32))
    {hx : (oM.access r).Stores Finset.univ} {hm} {α : Type} {Q : α → sProp 𝕄} {k : PUnit → Prog (TpuEff nD τ sig (Elt F) Λ₀ .tc) α} :
    outPts c (oM.view.writes (Elt F) f ps)
      ⊢ iprop((outPts c (oM.view.writes (Elt F) f (⟨r, w⟩ :: ps)) -∗ wp frame (wpE (defs₀ (F := F)) 𝒱₀ (c : Thread nD τ) none) Set.univ (k ⟨⟩) Q)
      -∗ wp frame (wpE (defs₀ (F := F)) 𝒱₀ (c : Thread nD τ) none) Set.univ (.op (.store oM r w Finset.univ hx hm) k) Q) := by
  unfold outPts
  exact wp_store 𝒱₀ (c : Thread nD τ) none Set.univ (m := oM) (r := r) (Mk := Finset.univ) (Finset.subset_univ _)

end Access

/-! ## Gathering what a guarded step takes -/

omit [FloatOps F] in
/-- What a guarded signal takes: a resource, and beside it the optional one with its contents forgotten. -/
theorem opt_gather (b : Bool) {X : Type} (T : sProp 𝕄) (P : X → sProp 𝕄) (x : X) : iprop(T ∗ opt b (P x)) ⊢ opt b iprop(T ∗ ∃ f, P f) := by
  cases b
  · rw [opt_false, opt_false]; iintro -; iempintro
  · rw [opt_true, opt_true]; iintro ⟨HT, HP⟩
    isplitl [HT]; · iexact HT
    iexists x; iexact HP
omit [FloatOps F] in
/-- What a guarded transfer takes, gathered under its one condition. -/
theorem opt_gather_send (b : Bool) (P R T U : sProp 𝕄) : iprop(opt b P ∗ opt b R ∗ T ∗ U) ⊢ opt b iprop(P ∗ R ∗ T ∗ U) := by
  cases b
  · rw [opt_false, opt_false, opt_false]; iintro -; iempintro
  · exact BI.Entails.refl _

/-! ## The body in its three parts -/

section Parts

variable (K : Dev nD × Option (Bool × Bool) → ℕ) (c : Dev nD)

/-- The tokens of the duties `c` pays on side `s`: its unit to the neighbour, its row to the neighbour, its row sent. -/
def payTok (s : Bool) : sProp 𝕄 :=
  iprop(dutyTok ER (barCell (nb s c)) 0 (!s) ∗ dutyTok ER (recvCell (!s) (nb s c)) 0 false ∗ dutyTok ER (sendCell s c) 0 false)

/-- What `c` has of side `s` between the parts: whether or not the row was sent, the way back to the edge row and
    the slot. -/
def sideAt (s : Bool) : sProp 𝕄 :=
  iprop(opt (has s c) (cred (tallyAt (sendCell s c) () N)) ∗ opt (!has s c) (edgePts m ρ s c) ∗ opt (!has s c) (slotPts s c (zeroed (F := F))))

set_option maxHeartbeats 1600000 in
/-- The first part: zero the halo buffer, tell the neighbours, wait for them, send them the edge rows, begin to read. -/
theorem part1_run {β : Type} {Q : β → sProp 𝕄}
    {k : (Σ' (v2 : BitVec 32) (v3 : BitVec 1) (v4 : BitVec 1) (v25 : FVec F S510x512 .f32), FVec F S510x512 .f32) → Prog (TpuEff nD τ sig (Elt F) Λ₀ .tc) β} :
    iprop(records m ρ K ∗ levAts L lv ∗ due c (owed c) ∗ payTok c false ∗ payTok c true ∗ cred (tallyAt (barCell c) () (count c)) ∗ atPos ER (barCell c) 0 ∅ 0
        ∗ (∃ f, ((c : Thread nD τ).loc cc0_scratch0) ↦{fullShare} f) ∗ xKept m ρ c ∗ edgePts m ρ false c ∗ edgePts m ρ true c)
      ⊢ iprop(((due c 0 ∗ semVal (barCell c) 0 ∗ sideAt m ρ c false ∗ sideAt m ρ c true ∗ hRest c (zeroed (F := F)) ∗ xKept m ρ c)
            -∗ wp frame (wpE (defs₀ (F := F)) 𝒱₀ (c : Thread nD τ) none) Set.univ
                (k ⟨word c, Scalar.cmpi .sgt (word c) 0#32, Scalar.cmpi .slt (word c) 31#32, k0_pay4 (xread m ρ mid0 c), k0_pay5⟩) Q)
          -∗ wp frame (wpE (defs₀ (F := F)) 𝒱₀ (c : Thread nD τ) none) Set.univ
              (k0_part1 (Memref.whole cc0_stg0_0) (Memref.isWhole_whole _) (Memref.whole cc0_stg1_0) (Memref.isWhole_whole _)
                (Memref.whole cc0_scratch0) (Memref.isWhole_whole _) cc0_scratch1 cc0_scratch2 >>= k) Q) := by
  rw [wp_bind]
  simp only [k0_part1_eq_skeleton]; unfold k0_part1_skel
  simp only [semSignalWord, semWaitWord, Prog.lift, Prog.bind_op, Prog.bind_ret, Prog.pure_eq_ret, Prog.bind_assoc, wp_deviceId]
  simp only [sem_send0, sem_send1, sem_recv0, sem_recv1]
  unfold payTok
  iintro ⟨#HR, #Hlev, HO, ⟨HtB0, HtV0, HtS0⟩, ⟨HtB1, HtV1, HtS1⟩, Hc, Hat, ⟨%f0, Hh⟩, Hx, He0, He1⟩ Hk
  -- the halo buffer zeroed, and cut in its two rows
  iapply (wp_load 𝒱₀ (c : Thread nD τ) none Set.univ (m := hM) (Finset.subset_univ _)) $$ Hh; iintro Hh
  iapply (wp_store_halo c zeroed) $$ Hh; iintro Hh
  ihave Hh := (halo_split c _) $$ Hh
  icases Hh with ⟨Hh0, Hh1, Hhr⟩
  ihave Hh0 := (opt_split (has false c) _) $$ Hh0
  icases Hh0 with ⟨Hh0, Hn0⟩
  ihave Hh1 := (opt_split (has true c) _) $$ Hh1
  icases Hh1 with ⟨Hh1, Hn1⟩
  -- a unit to each neighbour, with the row it is to write
  unfold owed
  iapply (wp_signal_opt m ρ K false c (cond1_iff c) (dev1_eq c) (owedRows c + oweBar true c)) $$ [HO HtB0 Hh0]
  · isplitr; · iexact HR
    isplitl [HO]; · iexact HO
    iapply (opt_gather (has false c) _ (slotPts false c) zeroed)
    isplitl [HtB0]; · iexact HtB0
    iexact Hh0
  iintro HO
  iapply (wp_signal_opt m ρ K true c (cond2_iff c) (dev2_eq c) (owedRows c)) $$ [HO HtB1 Hh1]
  · isplitr; · iexact HR
    isplitl [HO]; · iexact HO
    iapply (opt_gather (has true c) _ (slotPts true c) zeroed)
    isplitl [HtB1]; · iexact HtB1
    iexact Hh1
  iintro HO
  -- a unit from each neighbour, with the row of its that `c` is to write
  iapply (wp_wait_neighbours m ρ K c (testL_iff c) (testR_iff c)) $$ [HO Hc Hat]
  · isplitr; · iexact HR
    isplitl [Hc]; · iexact Hc
    isplitl [HO]; · iexact HO
    isplitr; · iexact Hlev
    iexact Hat
  iintro ⟨HO, Hz, Hb0, Hb1⟩
  -- the edge rows sent
  ihave He0 := (opt_split (has false c) _) $$ He0
  icases He0 with ⟨He0, Hs0⟩
  ihave He1 := (opt_split (has true c) _) $$ He1
  icases He1 with ⟨He1, Hs1⟩
  unfold owedRows
  iapply (wp_send_opt m ρ K false c (cond5_iff c) (dev3_eq c) (oweRow true c)) $$ [HO He0 Hb0 HtS0 HtV0]
  · isplitr; · iexact HR
    isplitl [HO]; · iexact HO
    iapply (opt_gather_send (has false c) _ _ _ _)
    isplitl [He0]; · iexact He0
    isplitl [Hb0]; · iexact Hb0
    isplitl [HtS0] <;> iassumption
  iintro ⟨HO, Hc0⟩
  rw [show oweRow true c = 0 + oweRow true c from (zero_add _).symm]
  iapply (wp_send_opt m ρ K true c (cond6_iff c) (dev4_eq c) 0) $$ [HO He1 Hb1 HtS1 HtV1]
  · isplitr; · iexact HR
    isplitl [HO]; · iexact HO
    iapply (opt_gather_send (has true c) _ _ _ _)
    isplitl [He1]; · iexact He1
    isplitl [Hb1]; · iexact Hb1
    isplitl [HtS1] <;> iassumption
  iintro ⟨HO, Hc1⟩
  iapply (wp_load_x m ρ c mid0) $$ Hx; iintro Hx
  rw [wp_ret]; imodintro
  iapply Hk
  unfold sideAt
  isplitl [HO]; · iexact HO
  isplitl [Hz]; · iexact Hz
  isplitl [Hc0 Hs0 Hn0]
  · isplitl [Hc0]; · iexact Hc0
    isplitl [Hs0] <;> iassumption
  isplitl [Hc1 Hs1 Hn1]
  · isplitl [Hc1]; · iexact Hc1
    isplitl [Hs1] <;> iassumption
  isplitl [Hhr] <;> iassumption

set_option maxHeartbeats 1600000 in
/-- The second part: the interior of the result, then the wait for the row from the left. -/
theorem part2_run (f : (cc0_stg1_0 : Ref sig .tc).ty.Contents (Elt F)) {β : Type} {Q : β → sProp 𝕄}
    {k : (Σ' (v47 : FVec F S1x512 .f32) (v56 : FVec F S1x512 .f32) (v59 : BitVec 1), Vec F S1x512 .f32) → Prog (TpuEff nD τ sig (Elt F) Λ₀ .tc) β} :
    iprop(records m ρ K ∗ due c 0 ∗ opt (has false c) (cred (tallyAt (recvCell false c) () N)) ∗ atPos ER (recvCell false c) 0 ∅ 0
        ∗ opt (!has false c) (slotPts false c (zeroed (F := F))) ∗ xKept m ρ c ∗ outPts c f)
      ⊢ iprop(((due c 0 ∗ semVal (recvCell false c) 0 ∗ slotPts false c (slotAt m ρ false c) ∗ xKept m ρ c
              ∗ outPts c (oM.view.writes (Elt F) f [⟨mid1, midOut m ρ c⟩]))
            -∗ wp frame (wpE (defs₀ (F := F)) 𝒱₀ (c : Thread nD τ) none) Set.univ
                (k ⟨k0_pay7 (xread m ρ row0 c) (xread m ρ row1 c), k0_pay8 (xread m ρ row510 c) (xread m ρ row511 c),
                  Scalar.cmpi .eq (word c) 0#32, xread m ρ row0 c⟩) Q)
          -∗ wp frame (wpE (defs₀ (F := F)) 𝒱₀ (c : Thread nD τ) none) Set.univ
              (k0_part2 (Memref.whole cc0_stg0_0) (Memref.isWhole_whole _) (Memref.whole cc0_stg1_0) (Memref.isWhole_whole _)
                (Memref.whole cc0_scratch0) (Memref.isWhole_whole _) cc0_scratch1 cc0_scratch2
                (word c) (Scalar.cmpi .sgt (word c) 0#32) (k0_pay4 (xread m ρ mid0 c)) k0_pay5 >>= k) Q) := by
  rw [wp_bind]
  simp only [k0_part2_eq_skeleton]; unfold k0_part2_skel
  simp only [Prog.lift, Prog.bind_op, Prog.bind_ret, Prog.pure_eq_ret, Prog.bind_assoc]
  simp only [sem_send0, sem_send1, sem_recv0, sem_recv1]
  iintro ⟨#HR, HO, Hc, Hat, Hn, Hx, Ho⟩ Hk
  iapply (wp_load_x m ρ c mid1) $$ Hx; iintro Hx
  iapply (wp_load_x m ρ c mid2) $$ Hx; iintro Hx
  iapply (wp_load_out c mid1 f) $$ Ho; iintro Ho
  iapply (wp_store_out c mid1 (midOut m ρ c) f []) $$ [Ho]; · iexact Ho
  iintro Ho
  iapply (wp_load_x m ρ c row0) $$ Hx; iintro Hx
  iapply (wp_load_x m ρ c row1) $$ Hx; iintro Hx
  iapply (wp_load_x m ρ c row510) $$ Hx; iintro Hx
  iapply (wp_load_x m ρ c row511) $$ Hx; iintro Hx
  iapply (wp_recv_opt m ρ K false c (testL_iff c) (slot_credit false)) $$ [HO Hc Hat Hn]
  · isplitr; · iexact HR
    isplitl [Hc]; · iexact Hc
    isplitl [HO]; · iexact HO
    isplitl [Hat] <;> iassumption
  iintro ⟨HO, Hz, Hs⟩
  iapply (wp_load_x m ρ c row0) $$ Hx; iintro Hx
  rw [wp_ret]; imodintro
  iapply Hk
  isplitl [HO]; · iexact HO
  isplitl [Hz]; · iexact Hz
  isplitl [Hs]; · iexact Hs
  isplitl [Hx] <;> iassumption

/-- What `c` has of side `s` when it starts, beside the tokens: the credit of the row it waits for and its two positions. -/
def startAt (s : Bool) : sProp 𝕄 :=
  iprop(payTok c s ∗ opt (has s c) (cred (tallyAt (recvCell s c) () N)) ∗ atPos ER (recvCell s c) 0 ∅ 0 ∗ atPos ER (sendCell s c) 0 ∅ 0)

/-- What the body ends with beside the staging buffers: the halo buffer, and its five semaphores at zero. -/
def endAt : sProp 𝕄 :=
  iprop((∃ f, ((c : Thread nD τ).loc cc0_scratch0) ↦{fullShare} f) ∗ semVal (barCell c) 0
    ∗ semVal (sendCell false c) 0 ∗ semVal (sendCell true c) 0 ∗ semVal (recvCell false c) 0 ∗ semVal (recvCell true c) 0)

set_option maxHeartbeats 1600000 in
/-- The body, run once on device `c`: the block is left as it was and the result holds `outAt`. -/
theorem body_run (f : (cc0_stg1_0 : Ref sig .tc).ty.Contents (Elt F)) {Q : PUnit → sProp 𝕄} :
    iprop(records m ρ K ∗ levAts L lv ∗ due c (owed c) ∗ cred (tallyAt (barCell c) () (count c)) ∗ atPos ER (barCell c) 0 ∅ 0
        ∗ startAt c false ∗ startAt c true ∗ (∃ f, ((c : Thread nD τ).loc cc0_scratch0) ↦{fullShare} f)
        ∗ (((c : Thread nD τ).loc cc0_stg0_0) ↦{fullShare} xstg m ρ c) ∗ outPts c f)
      ⊢ iprop(((due c 0 ∗ endAt c ∗ (((c : Thread nD τ).loc cc0_stg0_0) ↦{fullShare} xstg m ρ c) ∗ outPts c (outAt m ρ c)) -∗ Q ⟨⟩)
          -∗ wp frame (wpE (defs₀ (F := F)) 𝒱₀ (c : Thread nD τ) none) Set.univ
              (cc0_body (Memref.whole cc0_stg0_0) (Memref.isWhole_whole _) (Memref.whole cc0_stg1_0) (Memref.isWhole_whole _)
                (Memref.whole cc0_scratch0) (Memref.isWhole_whole _) cc0_scratch1 cc0_scratch2) Q) := by
  simp only [cc0_body_eq_skeleton]; unfold cc0_body_skel startAt endAt
  iintro ⟨#HR, #Hlev, HO, Hcb, Hab, ⟨Ht0, Hc0, Hr0, Hs0⟩, ⟨Ht1, Hc1, Hr1, Hs1⟩, Hh, Hx, Ho⟩ Hk
  ihave Hx := (x_split m ρ c).1 $$ Hx
  icases Hx with ⟨Hx, He0, He1, Hxr⟩
  iapply (part1_run m ρ K c) $$ [HO Hcb Hab Ht0 Ht1 Hh Hx He0 He1]
  · isplitr; · iexact HR
    isplitr; · iexact Hlev
    isplitl [HO]; · iexact HO
    isplitl [Ht0]; · iexact Ht0
    isplitl [Ht1]; · iexact Ht1
    isplitl [Hcb]; · iexact Hcb
    isplitl [Hab]; · iexact Hab
    isplitl [Hh]; · iexact Hh
    isplitl [Hx]; · iexact Hx
    isplitl [He0] <;> iassumption
  unfold sideAt
  iintro ⟨HO, Hzb, ⟨Hd0, Hne0, Hns0⟩, ⟨Hd1, Hne1, Hns1⟩, Hhr, Hx⟩
  iapply (part2_run m ρ K c f) $$ [HO Hc0 Hr0 Hns0 Hx Ho]
  · isplitr; · iexact HR
    isplitl [HO]; · iexact HO
    isplitl [Hc0]; · iexact Hc0
    isplitl [Hr0]; · iexact Hr0
    isplitl [Hns0]; · iexact Hns0
    isplitl [Hx] <;> iassumption
  iintro ⟨HO, Hzr0, Hh0, Hx, Ho⟩
  simp only [Prog.lift, Prog.bind_op, Prog.bind_ret, Prog.pure_eq_ret, Prog.bind_assoc]
  simp only [sem_send0, sem_send1, sem_recv0, sem_recv1]
  -- row 0
  iapply (wp_load_halo m ρ c false) $$ Hh0; iintro Hh0
  iapply (wp_load_out c row0 _) $$ Ho; iintro Ho
  iapply (wp_store_out c row0 (topOut m ρ c) f _) $$ Ho; iintro Ho
  -- the row from the right, and row 511
  iapply (wp_recv_opt m ρ K true c (testR_iff c) (slot_credit true)) $$ [HO Hc1 Hr1 Hns1]
  · isplitr; · iexact HR
    isplitl [Hc1]; · iexact Hc1
    isplitl [HO]; · iexact HO
    isplitl [Hr1] <;> iassumption
  iintro ⟨HO, Hzr1, Hh1⟩
  iapply (wp_load_x m ρ c row511) $$ Hx; iintro Hx
  iapply (wp_load_halo m ρ c true) $$ Hh1; iintro Hh1
  iapply (wp_load_out c row511 _) $$ Ho; iintro Ho
  iapply (wp_store_out c row511 (botOut m ρ c) f _) $$ Ho; iintro Ho
  -- the rows it sent have left
  iapply (wp_sent_opt m ρ K false c (testL_iff c) (edge_credit false)) $$ [HO Hd0 Hs0 Hne0]
  · isplitr; · iexact HR
    isplitl [Hd0]; · iexact Hd0
    isplitl [HO]; · iexact HO
    isplitl [Hs0] <;> iassumption
  iintro ⟨HO, Hzs0, He0⟩
  iapply (wp_sent_opt m ρ K true c (testR_iff c) (edge_credit true)) $$ [HO Hd1 Hs1 Hne1]
  · isplitr; · iexact HR
    isplitl [Hd1]; · iexact Hd1
    isplitl [HO]; · iexact HO
    isplitl [Hs1] <;> iassumption
  iintro ⟨HO, Hzs1, He1⟩
  rw [wp_ret]; imodintro
  iapply Hk
  isplitl [HO]; · iexact HO
  isplitl [Hh0 Hh1 Hhr Hzb Hzs0 Hzs1 Hzr0 Hzr1]
  · isplitl [Hh0 Hh1 Hhr]
    · iapply (halo_join c _ _ _)
      isplitl [Hh0]; · iexact Hh0
      isplitl [Hh1] <;> iassumption
    isplitl [Hzb]; · iexact Hzb
    isplitl [Hzs0]; · iexact Hzs0
    isplitl [Hzs1]; · iexact Hzs1
    isplitl [Hzr0] <;> iassumption
  isplitl [Hx He0 He1 Hxr]
  · iapply (x_split m ρ c).2
    isplitl [Hx]; · iexact Hx
    isplitl [He0]; · iexact He0
    isplitl [He1] <;> iassumption
  iapply (Entails.of_eq (congrArg (outPts c) (out_eq m ρ c f)))
  iexact Ho

end Parts

end Cert.HaloProof

end
-- ==== Proof.Run.lean ====
/-
# The run

The body is the one step of the call's pipeline; here it is put into the launch: the resources the exchange needs are
made at the start, dealt to the devices so that each holds what it pays with, and the semaphores come back to zero.
-/
module

public import proofs.«01_k».proof.Proof.Body
public import Idealize.ShloMosaic.Lib.Pipeline.CollectiveSegs

@[expose] public section

noncomputable section

namespace Cert.HaloProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline's step -/

/-- What device `c` is given of the exchange: its positions, and the tokens of what it pays. -/
def linear (c : Dev nD) : sProp 𝕄 :=
  iprop((bigSep Finset.univ fun k : Option (Bool × Bool) => atPos ER (kcell (c, k)) 0 ∅ 0) ∗ payTok c false ∗ payTok c true)
/-- The same with what every device may consult. -/
def given (c : Dev nD) : sProp 𝕄 := iprop(∃ K, records m ρ K ∗ linear c)
/-- The credits of what `c` will be sent: a unit per neighbour, a row per neighbour. -/
def credits (c : Dev nD) : sProp 𝕄 :=
  iprop(cred (tallyAt (barCell c) () (count c)) ∗ opt (has false c) (cred (tallyAt (recvCell false c) () N)) ∗ opt (has true c) (cred (tallyAt (recvCell true c) () N)))
/-- What device `c` starts from: what it is given, its credits, and the levels. -/
def start (c : Dev nD) : sProp 𝕄 := iprop(given m ρ c ∗ credits c ∗ levAts L lv)
/-- What is held before the step. -/
def Φ₀ (c : Dev nD) : sProp 𝕄 := iprop(start m ρ c ∗ ∃ f, ((c : Thread nD τ).loc cc0_scratch0) ↦{fullShare} f)
/-- What is held after the step. -/
def Φ₁ (c : Dev nD) : sProp 𝕄 := endAt c

/-- The data of the staging pipeline: the arrays before, the staged blocks after, what is held and owed at each step. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owed c
    | ⟨_ + 1, _⟩ => 0

-- that the result is `outAt` is settled by name, not by computing it
seal outAt

/-- The block of `x` is fetched before the step. -/
theorem fetch_x : (cfg0.win (0 : Fin 2)).fetch t0_0 = true := rfl

omit [FloatOps F] in
/-- Owning a whole buffer is holding all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with its contents named. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it ends in. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

omit [FloatOps F] in
/-- The five semaphores one by one. -/
theorem bigSep_cells (Φ : Option (Bool × Bool) → sProp 𝕄) :
    bigSep Finset.univ Φ = iprop(Φ none ∗ Φ (some (false, false)) ∗ Φ (some (false, true)) ∗ Φ (some (true, false)) ∗ Φ (some (true, true))) :=
  bigSep_univ_eq_bigSepL [none, some (false, false), some (false, true), some (true, false), some (true, true)] (by decide) (by decide) Φ

/-- The step from what the pipeline hands it to what the pipeline takes back. -/
theorem step_run (c : Dev nD) : bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c) := by
  have hx : ∀ d, (dats m ρ 0 c).before (0 : Fin 2) t0_0 d = xstg m ρ c := fun d => by
    unfold Dat.before; rw [if_pos fetch_x]; rfl
  have ho : (dats m ρ 0 c).owed t0_0.castSucc = owed c := rfl
  have ho' : (dats m ρ 0 c).owed t0_0.succ = 0 := rfl
  unfold bodyPre bodyPost Φ₀ Φ₁ start given credits linear stg
  unfold Dat.owesAt Pipeline.owesWithin
  rw [ho, ho', bigSep_cells]
  iintro ⟨⟨⟨⟨%K, #HR, ⟨Hab, Hs0, Hs1, Hr0, Hr1⟩, Ht0, Ht1⟩, ⟨Hcb, Hc0, Hc1⟩, #Hlev⟩, Hh⟩, ⟨%W, %hW, HO⟩, ⟨%d0, %g0, %hg0, Hx⟩, ⟨%d1, %g1, %hg1, Hout⟩⟩
  obtain rfl : g0 = xstg m ρ c := hg0.trans (hx d0)
  iapply (body_run m ρ K c g1) $$ [Hab Hs0 Hs1 Hr0 Hr1 Ht0 Ht1 Hcb Hc0 Hc1 Hh HO Hx Hout]
  · unfold startAt outPts due
    isplitr; · iexact HR
    isplitr; · iexact Hlev
    isplitl [HO]; · iexists W; iexact HO
    isplitl [Hcb]; · iexact Hcb
    isplitl [Hab]; · iexact Hab
    isplitl [Ht0 Hc0 Hr0 Hs0]
    · isplitl [Ht0]; · iexact Ht0
      isplitl [Hc0]; · iexact Hc0
      isplitl [Hr0]; · iexact Hr0
      iexact Hs0
    isplitl [Ht1 Hc1 Hr1 Hs1]
    · isplitl [Ht1]; · iexact Ht1
      isplitl [Hc1]; · iexact Hc1
      isplitl [Hr1]; · iexact Hr1
      iexact Hs1
    isplitl [Hh]; · iexact Hh
    isplitl [Hx] <;> iassumption
  unfold due outPts
  iintro ⟨⟨%W', HO⟩, He, Hx, Hout⟩
  isplitl [He]; · iexact He
  isplitl [HO]
  · iexists W'; isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body meets the pipeline's demand on it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  exact step_run m ρ c

/-! ## The resources made at launch -/

/-- The kernel's own semaphores are its scoped ones, apart from the staging ones. -/
theorem ownSemFacts : Pipeline.OwnSemFacts cfg0.spec osem := by decide
/-- Each array is held outright. -/
theorem share_eq (c : Dev nD) (w : Fin cfg0.W) : (dats m ρ 0 c).share w = fullShare := by unfold Dat.share; split <;> rfl

/-- The five semaphores of the exchange are different. -/
theorem csem_injective : Function.Injective csem := by decide
/-- So are those of all the devices. -/
theorem kcell_injective : Function.Injective (kcell : Dev nD × Option (Bool × Bool) → GSem nD τ sig) := fun ⟨c, k⟩ ⟨c', k'⟩ h => by
  have h1 : c = c' := congrArg (fun g : GSem nD τ sig => g.1.1) h
  have h2 : k = k' := csem_injective (congrArg Prod.snd h)
  rw [h1, h2]
/-- The semaphores of the exchange, on all devices. -/
def exCells : Finset (GSem nD τ sig) := Finset.univ.map ⟨kcell, kcell_injective⟩

/-- The duties of a device's own semaphores: on its barrier from side `s`, of its receive, of its send semaphore of
    side `s`. -/
abbrev dutyAt (js : Fin 3 × Bool) : Option (Bool × Bool) × Bool := match js with
  | (0, s) => (none, s) | (1, s) => (some (true, s), false) | (2, s) => (some (false, s), false)
/-- A device's duties are different. -/
theorem dutyAt_injective : Function.Injective dutyAt := by decide
/-- The token of a duty on a device. -/
abbrev tokOf (cj : Dev nD × Fin 3 × Bool) : GSem nD τ sig × ℕ × Bool := (kcell (cj.1, (dutyAt cj.2).1), 0, (dutyAt cj.2).2)
/-- So are the tokens of all the devices. -/
theorem tokOf_injective : Function.Injective tokOf := fun ⟨c, j⟩ ⟨c', j'⟩ h => by
  have h1 := kcell_injective (congrArg Prod.fst h)
  have h2 : (dutyAt j).2 = (dutyAt j').2 := congrArg (fun x : GSem nD τ sig × ℕ × Bool => x.2.2) h
  have h3 : j = j' := dutyAt_injective (Prod.ext (congrArg Prod.snd h1) h2)
  have h4 : c = c' := congrArg Prod.fst h1
  rw [h3, h4]
/-- The tokens of the exchange, on all devices. -/
def exToks : Finset (GSem nD τ sig × ℕ × Bool) := Finset.univ.map ⟨tokOf, tokOf_injective⟩

/-- The ghost state at launch: the pipeline's ledger and the exchange's, both at their start. -/
def u₀ : UU := (initOf (Pipeline.cells cfgs cellOf_inj) (Pipeline.launchToks cfgs cellOf_inj), initOf exCells exToks)

/-- The tokens of device `c`'s own semaphores. -/
def toks (c : Dev nD) : sProp 𝕄 := bigSep Finset.univ fun j : Fin 3 × Bool => dutyTok ER (kcell (c, (dutyAt j).1)) 0 (dutyAt j).2

/-- What the start deals device `c`. -/
def dealt (c : Dev nD) : sProp 𝕄 :=
  iprop((bigSep Finset.univ fun k : Option (Bool × Bool) => roundState ER (sched m ρ) (kcell (c, k)) 0)
    ∗ ((bigSep Finset.univ fun k : Option (Bool × Bool) => atPos ER (kcell (c, k)) 0 ∅ 0)
      ∗ bigSep Finset.univ fun k : Option (Bool × Bool) => reached ER (kcell (c, k)) 0) ∗ toks c)

/-- The exchange's ledger at its start deals every device its part. -/
theorem fund_exchange : BI.own (ER (initOf exCells exToks)) ⊢ (|==> bigSep Finset.univ (dealt m ρ) : sProp 𝕄) := by
  have hX (Φ : GSem nD τ sig → sProp 𝕄) : bigSep exCells Φ = bigSep Finset.univ fun c : Dev nD => bigSep Finset.univ fun k : Option (Bool × Bool) => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
/-- The kernel's own semaphores at zero are the two send and the two receive semaphores at zero. -/
theorem ownSems0_eq (c : Dev nD) : (Pipeline.ownSems0 (Ix := Unit) (Name := ℕ) (U := UU) (Lvl := ℕ) (Val := Elt F) (τ := τ) osem c : sProp 𝕄)
    = iprop(semVal (sendCell false c) 0 ∗ semVal (sendCell true c) 0 ∗ semVal (recvCell false c) 0 ∗ semVal (recvCell true c) 0) := by
  rw [Pipeline.ownSems0_eq_of_list c osem [(false, false), (false, true), (true, false), (true, true)] (by decide) (by decide)]; rfl
omit [FloatOps F] in
/-- The one other semaphore at zero is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The five semaphores of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Bool × Bool) => semVal (kcell (c, k)) 0 : sProp 𝕄) := by
  rw [ownSems0_eq, unscopedSems0_eq, bigSep_cells]
  iintro ⟨H, HB⟩
  isplitl [HB]; · iexact HB
  iexact H

/-- Each device's semaphores put under the schedule. -/
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (sched m ρ) κ (kcell (c, k))))
          ∗ ((bigSep Finset.univ fun k : Option (Bool × Bool) => atPos ER (kcell (c, k)) 0 ∅ 0)
            ∗ bigSep Finset.univ fun k : Option (Bool × Bool) => reached ER (kcell (c, k)) 0) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Option (Bool × Bool) => semVal (kcell (c, k)) 0) ∗ bigSep Finset.univ fun k : Option (Bool × Bool) => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt along the line: a barrier's and a receive semaphore's to the neighbour that pays there. -/
theorem toks_around : (bigSep Finset.univ fun c : Dev nD => (toks c : sProp 𝕄)) ⊢ bigSep Finset.univ fun c : Dev nD => iprop(payTok c false ∗ payTok c true) := by
  have hd (s : Bool) (Φ : Dev nD → sProp 𝕄) : bigSep Finset.univ Φ = bigSep Finset.univ fun c => Φ (nb s c) := bigSep_univ_equiv (around s) Φ
  have ht (c : Dev nD) : (toks c : sProp 𝕄) = iprop(dutyTok ER (barCell c) 0 false ∗ dutyTok ER (barCell c) 0 true
      ∗ dutyTok ER (recvCell false c) 0 false ∗ dutyTok ER (recvCell true c) 0 false ∗ dutyTok ER (sendCell false c) 0 false ∗ dutyTok ER (sendCell true c) 0 false) := by
    unfold toks
    rw [bigSep_univ_eq_bigSepL [(0, false), (0, true), (1, false), (1, true), (2, false), (2, true)] (by decide) (by decide)]; rfl
  rw [bigSep_congr fun c _ => ht c]
  unfold payTok
  simp only [bigSep_sep']
  rw [hd true (fun c : Dev nD => (dutyTok ER (barCell c) 0 false : sProp 𝕄)), hd false (fun c : Dev nD => (dutyTok ER (barCell c) 0 true : sProp 𝕄)),
    hd true (fun c : Dev nD => (dutyTok ER (recvCell false c) 0 false : sProp 𝕄)), hd false (fun c : Dev nD => (dutyTok ER (recvCell true c) 0 false : sProp 𝕄))]
  iintro ⟨HbR, HbL, HvR, HvL, HsL, HsR⟩
  isplitl [HbL HvL HsL]
  · isplitl [HbL]; · iexact HbL
    isplitl [HvL]; · iexact HvL
    iexact HsL
  isplitl [HbR]; · iexact HbR
  isplitl [HvR]; · iexact HvR
  iexact HsR

/-- Something every device may consult goes to each of them. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and the part of a device are what it is given. -/
theorem given_intro (K : Dev nD × Option (Bool × Bool) → ℕ) (c : Dev nD) : iprop(records m ρ K ∗ linear c) ⊢ given m ρ c := by
  unfold given
  iintro ⟨HR, HL⟩
  iexists K
  isplitl [HR] <;> iassumption

/-- The invariants, positions and tokens of all devices, dealt out so that each device gets the tokens of what it pays. -/
theorem regroup :
    (bigSep Finset.univ fun c : Dev nD => iprop((bigSep Finset.univ fun k => iprop(∃ κ : ℕ, cellInv ER (sched m ρ) κ (kcell (c, k))))
          ∗ ((bigSep Finset.univ fun k : Option (Bool × Bool) => atPos ER (kcell (c, k)) 0 ∅ 0)
            ∗ bigSep Finset.univ fun k : Option (Bool × Bool) => reached ER (kcell (c, k)) 0) ∗ toks c) : sProp 𝕄)
      ⊢ bigSep Finset.univ (given m ρ) := by
  rw [bigSep_sep', bigSep_sep', bigSep_sep', ← bigSep_univ_prod (fun ck : Dev nD × Option (Bool × Bool) => iprop(∃ κ : ℕ, cellInv ER (sched m ρ) κ (kcell ck))),
    ← bigSep_univ_prod (fun ck : Dev nD × Option (Bool × Bool) => (reached ER (kcell ck) 0 : sProp 𝕄))]
  iintro ⟨HI, ⟨Hat, #HR⟩, Htok⟩
  ihave HK := (BI.bigSep_exists_pi Finset.univ (fun (ck : Dev nD × Option (Bool × Bool)) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => given_intro m ρ K c)
  isplitr
  · unfold records; isplitl; · iexact HI
    iexact HR
  · iapply (Entails.of_eq (bigSep_sep' Finset.univ (fun c : Dev nD => bigSep Finset.univ fun k : Option (Bool × Bool) => (atPos ER (kcell (c, k)) 0 ∅ 0 : sProp 𝕄))
      (fun c => iprop(payTok c false ∗ payTok c true)) |>.symm))
    isplitl [Hat]; · iexact Hat
    iexact Htk

/-- From the semaphores at zero and what the start deals, every device is given its part of the exchange. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (given m ρ) :=
  ((bigSep_mono fun c _ => core_alloc m ρ c).trans (bigSep_fupd _ _)).trans (BI.fupd_mono (regroup m ρ))

/-! ## What is owed at launch, counted at each semaphore -/

/-- Semaphores of different kinds differ, on whichever devices. -/
theorem cell_ne {c d : Dev nD} {k k' : Option (Bool × Bool)} (h : k ≠ k') : kcell (c, k) ≠ kcell (d, k') := fun e => h (congrArg Prod.snd (kcell_injective e))

/-- No row is owed at a barrier. -/
theorem oweRow_bar (s : Bool) (d c : Dev nD) : oweRow s d (barCell c) () = 0 := by
  unfold oweRow
  split
  · rw [tallyAt_apply, if_neg fun h => cell_ne (k := none) (k' := some (true, !s)) (by simp) h.1]
  · rfl
/-- No barrier unit is owed at a receive semaphore. -/
theorem oweBar_recv (s s' : Bool) (d c : Dev nD) : oweBar s d (recvCell s' c) () = 0 := by
  unfold oweBar
  split
  · rw [tallyAt_apply, if_neg fun h => cell_ne (k := some (true, s')) (k' := none) (by simp) h.1]
  · rfl
/-- No row sent to side `s` is owed at a receive semaphore of that same side. -/
theorem oweRow_other (s : Bool) (d c : Dev nD) : oweRow s d (recvCell s c) () = 0 := by
  unfold oweRow
  split
  · rw [tallyAt_apply, if_neg fun h => cell_ne (k := some (true, s)) (k' := some (true, !s)) (by cases s <;> simp) h.1]
  · rfl

/-- `c` is the neighbour of `d` on one side just if `d` is that of `c` on the other. -/
theorem nb_eq_iff (s : Bool) (d c : Dev nD) : c = nb s d ↔ d = nb (!s) c :=
  ⟨fun h => by rw [h, nb_nb], fun h => by rw [h, nb_nb']⟩

/-- What `d` owes on side `s` at `c`: something if `d` is the neighbour of `c` on the other side and that is one. -/
theorem oweBar_bar (s : Bool) (d c : Dev nD) : oweBar s d (barCell c) () = if d = nb (!s) c then (if has (!s) c then 1 else 0) else 0 := by
  unfold oweBar
  by_cases hd : d = nb (!s) c
  · have hc : barCell c = barCell (nb s d) := congrArg barCell ((nb_eq_iff s d c).mpr hd)
    have hh : has s d = has (!s) c := by rw [hd]; have := has_nb (!s) c; rwa [Bool.not_not] at this
    rw [if_pos hd, hh]
    split
    · rw [tallyAt_apply, if_pos ⟨hc, rfl⟩]
    · rfl
  · rw [if_neg hd]
    split
    · rw [tallyAt_apply, if_neg fun h => hd ((nb_eq_iff s d c).mp (congrArg Prod.fst (kcell_injective (a₁ := (c, none)) (a₂ := (nb s d, none)) h.1)))]
    · rfl
/-- The row `d` owes at `c`'s receive semaphore of the other side: one, if `d` is the neighbour there. -/
theorem oweRow_recv (s : Bool) (d c : Dev nD) : oweRow s d (recvCell (!s) c) () = if d = nb (!s) c then (if has (!s) c then N else 0) else 0 := by
  unfold oweRow
  by_cases hd : d = nb (!s) c
  · have hc : recvCell (!s) c = recvCell (!s) (nb s d) := congrArg (recvCell (!s)) ((nb_eq_iff s d c).mpr hd)
    have hh : has s d = has (!s) c := by rw [hd]; have := has_nb (!s) c; rwa [Bool.not_not] at this
    rw [if_pos hd, hh]
    split
    · rw [tallyAt_apply, if_pos ⟨hc, rfl⟩]
    · rfl
  · rw [if_neg hd]
    split
    · rw [tallyAt_apply, if_neg fun h => hd ((nb_eq_iff s d c).mp
        (congrArg Prod.fst (kcell_injective (a₁ := (c, some (true, !s))) (a₂ := (nb s d, some (true, !s))) h.1)))]
    · rfl

/-- All that is owed at a semaphore is the sum of the four parts. -/
theorem owed_apply (d : Dev nD) (g : GSem nD τ sig) : owed d g () = oweRow true d g () + oweRow false d g () + oweBar true d g () + oweBar false d g () := by
  unfold owed owedRows
  rw [Pi.add_apply, Finsupp.add_apply, Pi.add_apply, Finsupp.add_apply, Pi.add_apply, Finsupp.add_apply]

/-- What `d` owes at `c`'s barrier: a unit for each side on which it is the neighbour. -/
theorem owed_bar (d c : Dev nD) : owed d (barCell c) ()
    = (if d = nb false c then (if has false c then 1 else 0) else 0) + (if d = nb true c then (if has true c then 1 else 0) else 0) := by
  rw [owed_apply, oweRow_bar, oweRow_bar, oweBar_bar, oweBar_bar, Nat.add_zero, Nat.zero_add]; rfl
/-- What `d` owes at `c`'s receive semaphore of side `s`: a row, if `d` is the neighbour on that side. -/
theorem owed_recv (s : Bool) (d c : Dev nD) : owed d (recvCell s c) () = if d = nb s c then (if has s c then N else 0) else 0 := by
  rw [owed_apply, oweBar_recv true, oweBar_recv false, Nat.add_zero]
  cases s
  · rw [oweRow_other false, Nat.add_zero]; exact oweRow_recv true d c
  · rw [oweRow_other true, Nat.zero_add]; exact oweRow_recv false d c

/-- The number of neighbours, counted side by side. -/
theorem count_eq (c : Dev nD) : count c = (if has false c then 1 else 0) + (if has true c then 1 else 0) := by revert c; decide +kernel

/-- All devices together owe a barrier as many units as there are neighbours. -/
theorem launch_bar (c : Dev nD) :
    tallyOn (barCell c) (launchCredit (Pipeline.owing owed) 0 (barCell c)) = (tallyAt (barCell c) () (count c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb false c), Finset.sum_ite_eq' Finset.univ (nb true c), if_pos (Finset.mem_univ _), if_pos (Finset.mem_univ _), count_eq]
/-- All devices together owe a receive semaphore one row, where there is a neighbour on its side. -/
theorem launch_recv (s : Bool) (c : Dev nD) (h : has s c = true) :
    tallyOn (recvCell s c) (launchCredit (Pipeline.owing owed) 0 (recvCell s c)) = (tallyAt (recvCell s c) () N : CellTallies nD τ sig Unit) := by
  unfold tallyAt; refine congrArg _ (Finsupp.ext fun u => ?_); cases u
  rw [Pipeline.launchCredit_owing, Finsupp.single_eq_same, Finset.sum_congr rfl fun d _ => owed_recv s d c, Finset.sum_ite_eq' Finset.univ (nb s c),
    if_pos (Finset.mem_univ _), if_pos h]

omit [FloatOps F] in
/-- The credit of a receive semaphore, kept where there is a neighbour on its side. -/
theorem opt_credit (s : Bool) (c : Dev nD) :
    (cred (tallyOn (recvCell s c) (launchCredit (Pipeline.owing owed) 0 (recvCell s c))) : sProp 𝕄) ⊢ opt (has s c) (cred (tallyAt (recvCell s c) () N)) := by
  rcases h : has s c with _ | _
  · rw [opt_false]; iintro -; iempintro
  · rw [opt_true, launch_recv s c h]

omit [FloatOps F] in
/-- The credits of the three semaphores others pay at, out of all of a device's. -/
theorem launchCred_eq (c : Dev nD) : (Pipeline.launchCred owed c : sProp 𝕄)
    = iprop(cred (tallyOn (barCell c) (launchCredit (Pipeline.owing owed) 0 (barCell c))) ∗ cred (tallyOn (recvCell false c) (launchCredit (Pipeline.owing owed) 0 (recvCell false c)))
        ∗ cred (tallyOn (recvCell true c) (launchCredit (Pipeline.owing owed) 0 (recvCell true c)))
        ∗ bigSep (((Finset.univ.erase (SemLoc.reg barS)).erase (SemLoc.dma (recvS false))).erase (SemLoc.dma (recvS true))) fun sm =>
            cred (tallyOn ((c : Thread nD τ), sm) (launchCredit (Pipeline.owing owed) 0 ((c : Thread nD τ), sm)))) := by
  unfold Pipeline.launchCred
  rw [bigSep_univ_at _ (SemLoc.reg barS), bigSep_erase (Finset.mem_erase.mpr ⟨(by decide), Finset.mem_univ (SemLoc.dma (recvS false))⟩),
    bigSep_erase (Finset.mem_erase.mpr ⟨(by decide), Finset.mem_erase.mpr ⟨(by decide), Finset.mem_univ (SemLoc.dma (recvS true))⟩⟩)]
  rfl

omit [FloatOps F] in
/-- A device's launch credits hold those of what it will be sent. -/
theorem creds (c : Dev nD) : (Pipeline.launchCred owed c : sProp 𝕄) ⊢ credits c := by
  rw [launchCred_eq, launch_bar]
  unfold credits
  iintro ⟨Hb, H0, H1, -⟩
  isplitl [Hb]; · iexact Hb
  isplitl [H0]
  · iapply (opt_credit (F := F) false c); iexact H0
  iapply (opt_credit (F := F) true c); iexact H1

/-! ## The launch -/

/-- What the launch leaves a device with is what it starts from. -/
theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ given m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- With the halo buffer, that is what the step starts from. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What the step ends in gives back every semaphore at zero and the halo buffer. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ endAt
  iintro ⟨Hr, Hb, H⟩
  isplitl [Hb]; · iexact Hb
  isplitl [H] <;> iassumption

/-- The staging semaphores may be waited for at every step, whatever is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- The arrays of device `c` after the run. -/
def finalA (c : Dev nD) (w : Fin cfg0.W) : Buf (Elt F) ((cfg0.win w).arr.view.loc (c : Thread nD τ)) := (dats m ρ 0 c).arrAt w cfg0.N

/-- Each device's arrays hold the computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with every semaphore at zero: every fair run of the program on the line of
    devices ends, with each device's arrays at the computed contents and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := dealt m ρ) (G' := given m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_x (c : Dev nD) : finalA m ρ c (0 : Fin 2) = m ((c : Thread nD τ).loc main_arg0) :=
  (dats (F := F) m ρ 0 c).arrAt_in (0 : Fin 2) rfl _

end Cert.HaloProof

end
-- ==== Proof.Reference.lean ====
/-
# The reference

What the reference computes of the whole array, element by element: the first row and the last are the argument's own,
and every other element is a weighted sum of the one above, itself and the one below.
-/
module

public import proofs.«01_k».proof.Proof.Gen.ReferenceIdeal.Run
public import Idealize.ShloMosaic.Lib.LayoutAt
public import Idealize.ShloMosaic.Lib.Pointwise

@[expose] public section

noncomputable section

namespace Cert.HaloProof

open Cert.ReferenceIdeal Cert.ReferenceIdeal.Gen

open Idealize.ShloMosaic
open Idealize.ShloMosaic.TcCoe
open Idealize.SL.Sem

variable {F : FTy → Type} [FloatOps F]

/-! ## One element -/

/-- A quarter, as the programs write it. -/
def quarter : F .f32 := FloatOps.ofBits .f32 0x3E800000#32
/-- A half, as the programs write it. -/
def half : F .f32 := FloatOps.ofBits .f32 0x3F000000#32

/-- The weighted sum of three elements of a column, in the order from the top. -/
def blend (a b c : F .f32) : F .f32 :=
  FloatOps.addf (FloatOps.addf (FloatOps.mulf quarter a) (FloatOps.mulf half b)) (FloatOps.mulf quarter c)

/-- The same weighted sum in the order the kernel adds row 0: the row above last. -/
def blendTop (a b c : F .f32) : F .f32 :=
  FloatOps.addf (FloatOps.addf (FloatOps.mulf half b) (FloatOps.mulf quarter c)) (FloatOps.mulf quarter a)

/-- Over the extended reals the order does not matter. -/
theorem blendTop_eq (a b c : Ideal .f32) : blendTop a b c = blend a b c := by
  unfold blendTop blend
  generalize FloatOps.mulf quarter a = p
  generalize FloatOps.mulf half b = q
  generalize FloatOps.mulf quarter c = r
  show (q + r) + p = (p + q) + r
  exact (add_comm (q + r) p).trans (add_assoc p q r).symm

/-! ## The whole array -/

/-- The part of the reference's result between the first row and the last. -/
def refInner (X : FVec F S16384x512 .f32) : FVec F S16382x512 .f32 :=
  addf (addf
    (mulf (broadcastInDim S16382x512 ![] bcast_S_S16382x512 (constant S_ .f32 0x3E800000#32))
      (extractStridedSlice S16382x512 ![0, 0] X slices_S16384x512_S16382x512_0_0))
    (mulf (broadcastInDim S16382x512 ![] bcast_S_S16382x512 (constant S_ .f32 0x3F000000#32))
      (extractStridedSlice S16382x512 ![1, 0] X slices_S16384x512_S16382x512_1_0)))
    (mulf (broadcastInDim S16382x512 ![] bcast_S_S16382x512 (constant S_ .f32 0x3E800000#32))
      (extractStridedSlice S16382x512 ![2, 0] X slices_S16384x512_S16382x512_2_0))

/-- What the reference computes of the whole array: its first row, the inner part, its last row. -/
def refOut (X : FVec F S16384x512 .f32) : FVec F S16384x512 .f32 :=
  concatenate S16384x512 0
    [⟨S1x512, extractStridedSlice S1x512 ![0, 0] X slices_S16384x512_S1x512_0_0⟩, ⟨S16382x512, refInner X⟩,
      ⟨S1x512, extractStridedSlice S1x512 ![16383, 0] X slices_S16384x512_S1x512_16383_0⟩]
    concatenates_S1x512_S16382x512_S1x512_S16384x512_d0

/-- The reference's run: its result is `refOut` of its argument, which is unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = refOut (m ((c.tc : Thread nD τ).loc main_arg0))
      ∧ r.2.mem ((c.tc : Thread nD τ).loc main_arg0) = m ((c.tc : Thread nD τ).loc main_arg0) :=
  Cert.ReferenceIdeal.Value.run m ρ

variable (X : FVec F S16384x512 .f32)

/-- Rows of the whole array from row `o` on, at an element. -/
theorem rows_apply {n : ℕ} (o : ℕ) (h : S16384x512.Slices ![o, 0] ⟨2, ![n, 512]⟩) (x : (⟨2, ![n, 512]⟩ : Shape).Idx) (k : S16384x512.Idx)
    (h0 : (k 0).val = o + (x 0).val) (h1 : (k 1).val = (x 1).val) : extractStridedSlice ⟨2, ![n, 512]⟩ ![o, 0] X h x = X k :=
  extractStridedSlice_apply ![o, 0] X h x k (Fin.forall_fin_two.mpr ⟨h0, by rw [h1]; exact (Nat.zero_add _).symm⟩)

/-- An element of the inner part is the weighted sum of three elements of a column of the whole array. -/
theorem refInner_apply (x : S16382x512.Idx) (a k b : S16384x512.Idx) (ha : (a 0).val = (x 0).val) (hk : (k 0).val = 1 + (x 0).val)
    (hb : (b 0).val = 2 + (x 0).val) (ha1 : (a 1).val = (x 1).val) (hk1 : (k 1).val = (x 1).val) (hb1 : (b 1).val = (x 1).val) :
    refInner X x = blend (X a) (X k) (X b) := by
  rw [← rows_apply X 0 slices_S16384x512_S16382x512_0_0 x a (by omega) ha1, ← rows_apply X 1 slices_S16384x512_S16382x512_1_0 x k hk hk1,
    ← rows_apply X 2 slices_S16384x512_S16382x512_2_0 x b hb hb1]
  rfl

/-- An index with another row is in the same column. -/
theorem same_column {n : ℕ} (r : Fin n) (k : S16384x512.Idx) (b : Fin 2) (hb : b ≠ 0) : (ix2 r (k 1) b).val = (k b).val := by
  match b with
  | 0 => exact absurd rfl hb
  | 1 => rfl

/-- The first row is the argument's own. -/
theorem refOut_first (k : S16384x512.Idx) (hk : (k 0).val = 0) : refOut X k = X k := by
  unfold refOut
  refine (concatenate_apply_piece 0 _ _ k 0 (by show 0 < 3; decide) S1x512 _ rfl rfl 0 rfl (ix2 (0 : Fin 1) (k 1)) (same_column _ k) hk.symm).trans ?_
  exact rows_apply X 0 _ _ k hk rfl

/-- The last row is the argument's own. -/
theorem refOut_last (k : S16384x512.Idx) (hk : (k 0).val = 16383) : refOut X k = X k := by
  unfold refOut
  refine (concatenate_apply_piece 0 _ _ k 2 (by show 2 < 3; decide) S1x512 _ rfl rfl 16383 rfl (ix2 (0 : Fin 1) (k 1)) (same_column _ k) hk.symm).trans ?_
  exact rows_apply X 16383 _ _ k hk rfl

/-- Every other element is the weighted sum of the one above, itself and the one below. -/
theorem refOut_inner (a k b : S16384x512.Idx) (ha : (k 0).val = (a 0).val + 1) (hb : (b 0).val = (k 0).val + 1)
    (ha1 : (a 1).val = (k 1).val) (hb1 : (b 1).val = (k 1).val) : refOut X k = blend (X a) (X k) (X b) := by
  have hlt : (b 0).val < 16384 := (b 0).isLt
  unfold refOut
  refine (concatenate_apply_piece 0 _ _ k 1 (by show 1 < 3; decide) S16382x512 _ rfl rfl 1 rfl (ix2 (⟨(a 0).val, by omega⟩ : Fin 16382) (k 1)) (same_column _ k)
    (show 1 + (a 0).val = (k 0).val by omega)).trans ?_
  exact refInner_apply X _ a k b rfl (show (k 0).val = 1 + (a 0).val by omega) (show (b 0).val = 2 + (a 0).val by omega) ha1 rfl hb1

end Cert.HaloProof

end
-- ==== Proof.Value.lean ====
/-
# The values

What a device computes, element by element, of its own block and of the two rows it was sent; and that this is the
device's block of what the reference computes of the whole array.
-/
module

public import proofs.«01_k».proof.Proof.Run
public import proofs.«01_k».proof.Proof.Reference

@[expose] public section

noncomputable section

namespace Cert.HaloProof

open Cert.KernelIdeal Cert.KernelIdeal.Gen
open Cert.ReferenceIdeal (S16384x512)

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## What the device reads -/

/-- The staged block is the device's argument. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- A read of rows of the block, at an element: the block's element that many rows down. -/
theorem xread_apply (o n : ℕ) (inb : ∀ a, (![o, 0] : Fin 2 → Nat) a + (![n, 512] : Fin 2 → Nat) a ≤ S512x512.size a) (c : Dev nD)
    (x : (Rect.unit (s := S512x512) ![o, 0] ![n, 512] inb).shape.Idx) (y : S512x512.Idx) (h0 : (y 0).val = o + (x 0).val) (h1 : (y 1).val = (x 1).val) :
    xread m ρ (Rect.unit (s := S512x512) ![o, 0] ![n, 512] inb) c x = xstg m ρ c y := by
  unfold xread
  rw [View.readAt_rect]
  refine congrArg (xstg m ρ c) (Layout.idx_ext (Fin.forall_fin_two.mpr ⟨?_, ?_⟩))
  · rw [h0]; show o + 1 * (x 0).val = _; omega
  · rw [h1]; show 0 + 1 * (x 1).val = _; omega

/-- A halo row that was filled, at an element: the neighbour's edge row there. -/
theorem haloread_apply (s : Bool) (c : Dev nD) (hs : has s c = true) (x : S1x512.Idx) (y : S512x512.Idx) (h0 : (y 0).val = edgeRow (!s))
    (h1 : (y 1).val = (x 1).val) :
    shapeCast S1x512 (haloread m ρ s c) shapeCasts_S1x1x512_S1x512 x = xstg m ρ (nb s c) y := by
  have hr : shapeCast S1x512 (haloread m ρ s c) shapeCasts_S1x1x512_S1x512 = (slotM s).view.read (Elt F) (slotAt m ρ s c) := rfl
  rw [hr]
  unfold slotAt
  rw [if_pos hs, View.read_write_univ]
  refine congrArg (xstg m ρ (nb s c)) (Layout.idx_ext (Fin.forall_fin_two.mpr ⟨?_, ?_⟩))
  · rw [h0]; have : (x 0).val < 1 := (x 0).isLt; show edgeRow (!s) + 1 * (x 0).val = _; omega
  · rw [h1]; show 0 + 1 * (x 1).val = _; omega

/-! ## The parts of the result, at an element -/

/-- The kernel's test for the first device holds just where there is no neighbour on the left. -/
theorem first_iff (c : Dev nD) : Scalar.cmpi .eq (word c) 0#32 = 1#1 ↔ has false c = false := by revert c; decide +kernel
/-- The kernel's test for the last device holds just where there is no neighbour on the right. -/
theorem last_iff (c : Dev nD) : Scalar.cmpi .eq (word c) 31#32 = 1#1 ↔ has true c = false := by revert c; decide +kernel

/-- An element of rows 1 to 510: the weighted sum of what was read there from row 0, from row 1 and from row 2 on. -/
theorem midOut_apply (c : Dev nD) (x : S510x512.Idx) :
    midOut m ρ c x = blend (xread m ρ mid0 c x) (xread m ρ mid1 c x) (xread m ρ mid2 c x) := by
  unfold midOut k0_pay6 k0_pay4 k0_pay5
  simp only [shapeCast_self]
  rfl

/-- An element of row 0 of a device with a neighbour before it. -/
theorem topOut_apply (c : Dev nD) (hs : has false c = true) (x : S1x512.Idx) : topOut m ρ c x
    = blendTop (shapeCast S1x512 (haloread m ρ false c) shapeCasts_S1x1x512_S1x512 x) (xread m ρ row0 c x) (xread m ρ row1 c x) := by
  unfold topOut k0_pay1 k0_pay7
  simp only [shapeCast_self, Scalar.select]
  rw [if_neg (show ¬ Scalar.cmpi .eq (word c) 0#32 = 1 from fun h => Bool.false_ne_true (((first_iff c).mp h).symm.trans hs))]
  rfl

/-- An element of row 0 of the first device. -/
theorem topOut_first (c : Dev nD) (hs : has false c = false) : topOut m ρ c = xread m ρ row0 c := by
  unfold topOut k0_pay1
  simp only [shapeCast_self, Scalar.select]
  exact if_pos ((first_iff c).mpr hs)

/-- An element of row 511 of a device with a neighbour after it. -/
theorem botOut_apply (c : Dev nD) (hs : has true c = true) (x : S1x512.Idx) : botOut m ρ c x
    = blend (xread m ρ row510 c x) (xread m ρ row511 c x) (shapeCast S1x512 (haloread m ρ true c) shapeCasts_S1x1x512_S1x512 x) := by
  unfold botOut k0_pay2 k0_pay8
  simp only [shapeCast_self, Scalar.select]
  rw [if_neg (show ¬ Scalar.cmpi .eq (word c) 31#32 = 1 from fun h => Bool.false_ne_true (((last_iff c).mp h).symm.trans hs))]
  rfl

/-- An element of row 511 of the last device. -/
theorem botOut_last (c : Dev nD) (hs : has true c = false) : botOut m ρ c = xread m ρ row511 c := by
  unfold botOut k0_pay2
  simp only [shapeCast_self, Scalar.select]
  exact if_pos ((last_iff c).mpr hs)

/-! ## The result, at an element -/

/-- The result is the three stores, read back. -/
theorem outAt_read (c : Dev nD) (y : S512x512.Idx) : outAt m ρ c y = oM.view.read (Elt F) (oM.view.writes (Elt F) (xstg m ρ c)
    [⟨row511, botOut m ρ c⟩, ⟨row0, topOut m ρ c⟩, ⟨mid1, midOut m ρ c⟩]) y := by
  unfold outAt stores
  generalize oM.view.writes (Elt F) _ _ = f
  exact (congrFun (View.read_whole (Val := Elt F) (cc0_stg1_0 : Ref sig .tc) f) y).symm

/-- Row 511 of the result is what the last store writes. -/
theorem outAt_bot (c : Dev nD) (y : S512x512.Idx) (x : S1x512.Idx) (hy : (y 0).val = 511) (h1 : (y 1).val = (x 1).val) :
    outAt m ρ c y = botOut m ρ c x := by
  have hx : (x 0).val < 1 := (x 0).isLt
  rw [outAt_read]
  exact View.read_writes_cons_rows_of_mem (Val := Elt F) oM.view _ inb_S512x512_S1x512_511_0 (botOut m ρ c) _ y x rfl (by omega) h1

/-- Row 0 of the result is what the second store writes. -/
theorem outAt_top (c : Dev nD) (y : S512x512.Idx) (x : S1x512.Idx) (hy : (y 0).val = 0) (h1 : (y 1).val = (x 1).val) :
    outAt m ρ c y = topOut m ρ c x := by
  have hx : (x 0).val < 1 := (x 0).isLt
  rw [outAt_read]
  refine (View.read_writes_cons_rows_of_not_mem (Val := Elt F) oM.view _ inb_S512x512_S1x512_511_0 (botOut m ρ c) _ y rfl rfl (by omega)).trans ?_
  exact View.read_writes_cons_rows_of_mem (Val := Elt F) oM.view _ inb_S512x512_S1x512_0_0 (topOut m ρ c) _ y x rfl (by omega) h1

/-- Rows 1 to 510 are what the first store writes. -/
theorem outAt_mid (c : Dev nD) (y : S512x512.Idx) (x : S510x512.Idx) (hy : (y 0).val = 1 + (x 0).val) (h1 : (y 1).val = (x 1).val) :
    outAt m ρ c y = midOut m ρ c x := by
  have hx : (x 0).val < 510 := (x 0).isLt
  rw [outAt_read]
  refine (View.read_writes_cons_rows_of_not_mem (Val := Elt F) oM.view _ inb_S512x512_S1x512_511_0 (botOut m ρ c) _ y rfl rfl (by omega)).trans ?_
  refine (View.read_writes_cons_rows_of_not_mem (Val := Elt F) (W := 1) oM.view _ inb_S512x512_S1x512_0_0 (topOut m ρ c) _ y rfl rfl (by omega)).trans ?_
  exact View.read_writes_cons_rows_of_mem (Val := Elt F) oM.view _ inb_S512x512_S510x512_1_0 (midOut m ρ c) _ y x rfl hy h1

seal outAt in
/-- The result array is what the body left in its staging buffer. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  generalize finalA m ρ c (1 : Fin 2) = f at h ⊢
  exact (Memref.read_access_unit_zero (Elt F) main_v1 (funext fun a => by fin_cases a <;> decide)
    (fun a => by fin_cases a <;> decide) f).symm.trans h

/-! ## The device's block of the reference's result -/

/-- The blocks are the whole array's, 512 rows each. -/
theorem tiles : Layout.Tiles S512x512 S16384x512 0 32 := by decide

section Agree

variable (X : FVec F S16384x512 .f32) (hX : ∀ c : Dev nD, m ((c : Thread nD τ).loc main_arg0) = Layout.block S512x512 S16384x512 0 32 c X tiles)

include hX in
/-- An element of a device's block is the element of the whole array 512 rows further down per device before it. -/
theorem xstg_apply (c : Dev nD) (y : S512x512.Idx) (k : S16384x512.Idx) (h0 : (k 0).val = c.val * 512 + (y 0).val) (h1 : (k 1).val = (y 1).val) :
    xstg m ρ c y = X k := by
  rw [xstg_eq, hX, Layout.block_apply]
  refine congrArg X (Layout.idx_ext (Fin.forall_fin_two.mpr ⟨?_, ?_⟩))
  · exact (tiles.idx_val_self c y 0 rfl).trans h0.symm
  · exact (tiles.idx_val_of_ne c y 1 (by decide)).trans h1.symm

include hX in
/-- Rows of the device's block as read, at an element, in the whole array. -/
theorem xread_whole (o n : ℕ) (inb : ∀ a, (![o, 0] : Fin 2 → Nat) a + (![n, 512] : Fin 2 → Nat) a ≤ S512x512.size a) (c : Dev nD)
    (x : (Rect.unit (s := S512x512) ![o, 0] ![n, 512] inb).shape.Idx) (k : S16384x512.Idx)
    (h0 : (k 0).val = c.val * 512 + (o + (x 0).val)) (h1 : (k 1).val = (x 1).val) :
    xread m ρ (Rect.unit (s := S512x512) ![o, 0] ![n, 512] inb) c x = X k := by
  have hx0 : (x 0).val < n := (x 0).isLt
  have hin : o + n ≤ 512 := inb 0
  rw [xread_apply m ρ o n inb c x (ix2 ⟨o + (x 0).val, by omega⟩ (x 1)) rfl rfl]
  exact xstg_apply m ρ X hX c _ k h0 h1

include hX in
/-- A filled halo row, at an element, in the whole array: the row before the block, or the row after it. -/
theorem haloread_whole (s : Bool) (c : Dev nD) (hs : has s c = true) (x : S1x512.Idx) (k : S16384x512.Idx)
    (h0 : (k 0).val = (nb s c).val * 512 + edgeRow (!s)) (h1 : (k 1).val = (x 1).val) :
    shapeCast S1x512 (haloread m ρ s c) shapeCasts_S1x1x512_S1x512 x = X k := by
  rw [haloread_apply m ρ s c hs x (ix2 ⟨edgeRow (!s), by cases s <;> decide⟩ (x 1)) rfl rfl]
  exact xstg_apply m ρ X hX _ _ k h0 h1

end Agree

/-- Over the extended reals, what a device computes is its block of what the reference computes. -/
theorem outAt_block (m : (ℓ : Loc nD τ sig) → Buf (Elt Ideal) ℓ) (X : FVec Ideal S16384x512 .f32)
    (hX : ∀ c : Dev nD, m ((c : Thread nD τ).loc main_arg0) = Layout.block S512x512 S16384x512 0 32 c X tiles) (c : Dev nD) :
    outAt m ρ c = Layout.block S512x512 S16384x512 0 32 c (refOut X) tiles := by
  funext y
  rw [Layout.block_apply]
  generalize hk : tiles.idx c y = k
  have h0 : (k 0).val = c.val * 512 + (y 0).val := hk ▸ tiles.idx_val_self c y 0 rfl
  have h1 : (k 1).val = (y 1).val := hk ▸ tiles.idx_val_of_ne c y 1 (by decide)
  have hy : (y 0).val < 512 := (y 0).isLt
  have hc : c.val < 32 := c.isLt
  -- the elements above and below, in the whole array
  have up : 0 < (k 0).val → ∃ a : S16384x512.Idx, (k 0).val = (a 0).val + 1 ∧ (a 1).val = (k 1).val := fun h =>
    ⟨ix2 ⟨(k 0).val - 1, by omega⟩ (k 1), show (k 0).val = (k 0).val - 1 + 1 by omega, rfl⟩
  have down : (k 0).val < 16383 → ∃ b : S16384x512.Idx, (b 0).val = (k 0).val + 1 ∧ (b 1).val = (k 1).val := fun h =>
    ⟨ix2 ⟨(k 0).val + 1, by omega⟩ (k 1), rfl, rfl⟩
  by_cases hb : (y 0).val = 511
  · rw [outAt_bot m ρ c y (ix2 (0 : Fin 1) (y 1)) hb rfl]
    by_cases hs : has true c = true
    · have hlt : c.val < 31 := of_decide_eq_true hs
      obtain ⟨a, ha, ha1⟩ := up (by omega)
      obtain ⟨b, hb0, hb1⟩ := down (by omega)
      have hn : (nb true c).val = c.val + 1 := Nat.mod_eq_of_lt (by omega)
      rw [botOut_apply m ρ c hs, refOut_inner X a k b ha hb0 ha1 hb1,
        xread_whole m ρ X hX 510 1 _ c _ a (show _ = _ + (510 + 0) by omega) (ha1.trans h1),
        xread_whole m ρ X hX 511 1 _ c _ k (show _ = _ + (511 + 0) by omega) h1,
        haloread_whole m ρ X hX true c hs _ b (show _ = _ + 0 by omega) (hb1.trans h1)]
    · have hs' : has true c = false := Bool.eq_false_iff.mpr hs
      have hge : ¬ c.val < 31 := of_decide_eq_false hs'
      rw [botOut_last m ρ c hs', refOut_last X k (by omega),
        xread_whole m ρ X hX 511 1 _ c _ k (show _ = _ + (511 + 0) by omega) h1]
  by_cases ht : (y 0).val = 0
  · rw [outAt_top m ρ c y (ix2 (0 : Fin 1) (y 1)) ht rfl]
    by_cases hs : has false c = true
    · have hlt : 0 < c.val := of_decide_eq_true hs
      obtain ⟨a, ha, ha1⟩ := up (by omega)
      obtain ⟨b, hb0, hb1⟩ := down (by omega)
      have hn : (nb false c).val + 1 = c.val := by show (c.val + 31) % 32 + 1 = c.val; omega
      rw [topOut_apply m ρ c hs, blendTop_eq, refOut_inner X a k b ha hb0 ha1 hb1,
        haloread_whole m ρ X hX false c hs _ a (show _ = _ + 511 by omega) (ha1.trans h1),
        xread_whole m ρ X hX 0 1 _ c _ k (show _ = c.val * 512 + (0 + 0) by omega) h1,
        xread_whole m ρ X hX 1 1 _ c _ b (show _ = _ + (1 + 0) by omega) (hb1.trans h1)]
    · have hs' : has false c = false := Bool.eq_false_iff.mpr hs
      have hz : ¬ 0 < c.val := of_decide_eq_false hs'
      rw [topOut_first m ρ c hs', refOut_first X k (by omega),
        xread_whole m ρ X hX 0 1 _ c _ k (show _ = c.val * 512 + (0 + 0) by omega) h1]
  · obtain ⟨a, ha, ha1⟩ := up (by omega)
    obtain ⟨b, hb0, hb1⟩ := down (by omega)
    rw [outAt_mid m ρ c y (ix2 (⟨(y 0).val - 1, by omega⟩ : Fin 510) (y 1)) (show _ = 1 + (_ - 1) by omega) rfl, midOut_apply,
      refOut_inner X a k b ha hb0 ha1 hb1,
      xread_whole m ρ X hX 0 510 _ c _ a (show _ = _ + (0 + ((y 0).val - 1)) by omega) (ha1.trans h1),
      xread_whole m ρ X hX 1 510 _ c _ k (show _ = _ + (1 + ((y 0).val - 1)) by omega) h1,
      xread_whole m ρ X hX 2 510 _ c _ b (show _ = _ + (2 + ((y 0).val - 1)) by omega) (hb1.trans h1)]

end Cert.HaloProof

end
-- ==== Proof.lean ====
module

public import proofs.«01_k».proof.Proof.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Over any float values the program runs, its argument is unchanged and every semaphore is back at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cert.HaloProof.finalA_x m ρ c), h.2⟩)
    (Cert.HaloProof.run_main m ρ)

/-- The kernel and its ideal program have one text: the one body of each is the other's, -/
theorem same_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- so the tables of all that they call are, -/
theorem same_defs : Cert.Kernel.defs (F := Bits) = Cert.KernelIdeal.defs (F := Bits) :=
  congrArg (Pipeline.defs Cert.KernelIdeal.pcfgs) same_bodies

/-- and the frame of each is the one above, at the machine's float values -/
theorem frame_kernel : Cert.quiescent_Kernel := fun m ρ _ => by
  rw [same_defs]
  exact frame_any (F := Bits) m ρ

/-- and at the extended reals. -/
theorem frame_kernelIdeal : Cert.quiescent_KernelIdeal := fun m ρ _ => frame_any (F := Ideal) m ρ

/-- The reference runs and leaves its argument; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.HaloProof.ref_run (F := Ideal) m ρ)

/-- Over the extended reals every device's result is its block of the reference's. -/
theorem result_agrees : Cert.algebraic_KernelIdeal_ReferenceIdeal := by
  intro m ρ m' ρ' _ hX
  refine ⟨Cert.HaloProof.refOut (F := Ideal) (m' (((0 : Dev Cert.ReferenceIdeal.nD).tc : Thread Cert.ReferenceIdeal.nD Cert.ReferenceIdeal.τ).loc
    Cert.ReferenceIdeal.main_arg0)), ?_, ?_⟩
  · exact (θ_run Cert.KernelIdeal.defs _ _).mono
      (fun _ h c => ⟨(h.1 c (1 : Fin 2)).trans ((Cert.HaloProof.finalA_out m ρ c).trans (Cert.HaloProof.outAt_block ρ m _ hX c)),
        (h.1 c (0 : Fin 2)).trans (Cert.HaloProof.finalA_x m ρ c)⟩)
      (Cert.HaloProof.run_main (F := Ideal) m ρ)
  · exact (θ_run Cert.ReferenceIdeal.defs _ _).mono (fun _ h => h 0) (Cert.HaloProof.ref_run (F := Ideal) m' ρ')

/-- All that is claimed. -/
theorem claim : Cert.Claim :=
  ⟨Cert.Kernel.Gen.facts, Cert.KernelIdeal.Gen.facts, Cert.ReferenceIdeal.Gen.facts,
    frame_kernel, frame_kernelIdeal, frame_reference, trivial, result_agrees⟩

end Cert.Proof

end
